-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x256 : Shape := ⟨2, ![32768, 256]⟩
abbrev S65024x256 : Shape := ⟨2, ![65024, 256]⟩
abbrev S128x256 : Shape := ⟨2, ![128, 256]⟩
abbrev S_ : Shape := ⟨0, ![]⟩
abbrev S127x512x256 : Shape := ⟨3, ![127, 512, 256]⟩

abbrev nBuf : Table → Nat
  | .hbm => 3
  | .local .scVector .vmem => 2
  | _ => 0

abbrev bufTy : (tb : Table) → Fin (nBuf tb) → BufTy
  | .hbm, ⟨0, _⟩ => ⟨S32768x256, .f32⟩
  | .hbm, ⟨1, _⟩ => ⟨S65024x256, .f32⟩
  | .hbm, ⟨2, _⟩ => ⟨S127x512x256, .f32⟩
  | .local .scVector .vmem, ⟨0, _⟩ => ⟨S128x256, .f32⟩
  | .local .scVector .vmem, ⟨1, _⟩ => ⟨S128x256, .f32⟩
  | _, _ => ⟨S32768x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) (c0_i32_0 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c256_i32 : BitVec 32 := 256#32
  let v4 : BitVec 32 := Scalar.muli v3 c256_i32
  let v5 : BitVec 32 := Scalar.addi v4 c0_i32_0
  let c0_i32_1 : BitVec 32 := 0#32
  ![v5.toNat, 0]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_14 : BitVec 32 := 4#32
  let v20 : BitVec 32 := Scalar.muli v1 c4_i32_14
  let c0_i32_15 : BitVec 32 := 0#32
  let v21 : BitVec 32 := Scalar.addi v20 c0_i32_15
  let c126_i32 : BitVec 32 := 126#32
  let v22 : BitVec 1 := Scalar.cmpi .sle v21 c126_i32
  let v23 : BitVec 32 := Scalar.extui v22
  let c0_i32_16 : BitVec 32 := 0#32
  let v24 : BitVec 1 := Scalar.cmpi .ne v23 c0_i32_16
  v24

def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c0_i32_218 : BitVec 32 := 0#32
  let v259 : BitVec 32 := Scalar.addi v258 c0_i32_218
  let c512_i32 : BitVec 32 := 512#32
  let v260 : BitVec 32 := Scalar.muli v259 c512_i32
  let c0_i32_219 : BitVec 32 := 0#32
  let v261 : BitVec 32 := Scalar.addi v260 c0_i32_219
  let c0_i32_220 : BitVec 32 := 0#32
  ![v261.toNat, 0]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_17 : BitVec 32 := 4#32
  let v25 : BitVec 32 := Scalar.muli v1 c4_i32_17
  let c0_i32_18 : BitVec 32 := 0#32
  let v26 : BitVec 32 := Scalar.addi v25 c0_i32_18
  let c1_i32 : BitVec 32 := 1#32
  let v27 : BitVec 1 := Scalar.cmpi .sge v26 c1_i32
  let v28 : BitVec 32 := Scalar.extui v27
  let c0_i32_19 : BitVec 32 := 0#32
  let v29 : BitVec 1 := Scalar.cmpi .ne v28 c0_i32_19
  v29

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c0_i32_218 : BitVec 32 := 0#32
  let v259 : BitVec 32 := Scalar.addi v258 c0_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c0_i32_221 : BitVec 32 := 0#32
  let v263 : BitVec 32 := Scalar.addi v262 c0_i32_221
  let c0_i32_222 : BitVec 32 := 0#32
  ![v263.toNat, 0]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_20 : BitVec 32 := 4#32
  let v30 : BitVec 32 := Scalar.muli v1 c4_i32_20
  let c0_i32_21 : BitVec 32 := 0#32
  let v31 : BitVec 32 := Scalar.addi v30 c0_i32_21
  let c126_i32_22 : BitVec 32 := 126#32
  let v32 : BitVec 1 := Scalar.cmpi .sle v31 c126_i32_22
  let v33 : BitVec 32 := Scalar.extui v32
  let c0_i32_23 : BitVec 32 := 0#32
  let v34 : BitVec 1 := Scalar.cmpi .ne v33 c0_i32_23
  v34

def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c0_i32_218 : BitVec 32 := 0#32
  let v259 : BitVec 32 := Scalar.addi v258 c0_i32_218
  let c512_i32 : BitVec 32 := 512#32
  let v260 : BitVec 32 := Scalar.muli v259 c512_i32
  let c0_i32_219 : BitVec 32 := 0#32
  let v261 : BitVec 32 := Scalar.addi v260 c0_i32_219
  let c0_i32_220 : BitVec 32 := 0#32
  ![v261.toNat, 0]
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_24 : BitVec 32 := 4#32
  let v35 : BitVec 32 := Scalar.muli v1 c4_i32_24
  let c0_i32_25 : BitVec 32 := 0#32
  let v36 : BitVec 32 := Scalar.addi v35 c0_i32_25
  let c1_i32_26 : BitVec 32 := 1#32
  let v37 : BitVec 1 := Scalar.cmpi .sge v36 c1_i32_26
  let v38 : BitVec 32 := Scalar.extui v37
  let c0_i32_27 : BitVec 32 := 0#32
  let v39 : BitVec 1 := Scalar.cmpi .ne v38 c0_i32_27
  v39

def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c0_i32_218 : BitVec 32 := 0#32
  let v259 : BitVec 32 := Scalar.addi v258 c0_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c0_i32_221 : BitVec 32 := 0#32
  let v263 : BitVec 32 := Scalar.addi v262 c0_i32_221
  let c0_i32_222 : BitVec 32 := 0#32
  ![v263.toNat, 0]
def k0_cond5 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_40 : BitVec 32 := 4#32
  let v52 : BitVec 32 := Scalar.muli v1 c4_i32_40
  let c0_i32_41 : BitVec 32 := 0#32
  let v53 : BitVec 32 := Scalar.addi v52 c0_i32_41
  let c126_i32_42 : BitVec 32 := 126#32
  let v54 : BitVec 1 := Scalar.cmpi .sle v53 c126_i32_42
  let v55 : BitVec 32 := Scalar.extui v54
  let c0_i32_43 : BitVec 32 := 0#32
  let v56 : BitVec 1 := Scalar.cmpi .ne v55 c0_i32_43
  v56

def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c0_i32_218 : BitVec 32 := 0#32
  let v259 : BitVec 32 := Scalar.addi v258 c0_i32_218
  let c512_i32 : BitVec 32 := 512#32
  let v260 : BitVec 32 := Scalar.muli v259 c512_i32
  let c128_i32_219 : BitVec 32 := 128#32
  let v261 : BitVec 32 := Scalar.addi v260 c128_i32_219
  let c0_i32_220 : BitVec 32 := 0#32
  ![v261.toNat, 0]
def k0_cond6 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_44 : BitVec 32 := 4#32
  let v57 : BitVec 32 := Scalar.muli v1 c4_i32_44
  let c0_i32_45 : BitVec 32 := 0#32
  let v58 : BitVec 32 := Scalar.addi v57 c0_i32_45
  let c1_i32_46 : BitVec 32 := 1#32
  let v59 : BitVec 1 := Scalar.cmpi .sge v58 c1_i32_46
  let v60 : BitVec 32 := Scalar.extui v59
  let c0_i32_47 : BitVec 32 := 0#32
  let v61 : BitVec 1 := Scalar.cmpi .ne v60 c0_i32_47
  v61

def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c0_i32_218 : BitVec 32 := 0#32
  let v259 : BitVec 32 := Scalar.addi v258 c0_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c128_i32_221 : BitVec 32 := 128#32
  let v263 : BitVec 32 := Scalar.addi v262 c128_i32_221
  let c0_i32_222 : BitVec 32 := 0#32
  ![v263.toNat, 0]
def k0_cond7 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_48 : BitVec 32 := 4#32
  let v62 : BitVec 32 := Scalar.muli v1 c4_i32_48
  let c0_i32_49 : BitVec 32 := 0#32
  let v63 : BitVec 32 := Scalar.addi v62 c0_i32_49
  let c126_i32_50 : BitVec 32 := 126#32
  let v64 : BitVec 1 := Scalar.cmpi .sle v63 c126_i32_50
  let v65 : BitVec 32 := Scalar.extui v64
  let c0_i32_51 : BitVec 32 := 0#32
  let v66 : BitVec 1 := Scalar.cmpi .ne v65 c0_i32_51
  v66

def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c0_i32_218 : BitVec 32 := 0#32
  let v259 : BitVec 32 := Scalar.addi v258 c0_i32_218
  let c512_i32 : BitVec 32 := 512#32
  let v260 : BitVec 32 := Scalar.muli v259 c512_i32
  let c128_i32_219 : BitVec 32 := 128#32
  let v261 : BitVec 32 := Scalar.addi v260 c128_i32_219
  let c0_i32_220 : BitVec 32 := 0#32
  ![v261.toNat, 0]
def k0_cond8 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_52 : BitVec 32 := 4#32
  let v67 : BitVec 32 := Scalar.muli v1 c4_i32_52
  let c0_i32_53 : BitVec 32 := 0#32
  let v68 : BitVec 32 := Scalar.addi v67 c0_i32_53
  let c1_i32_54 : BitVec 32 := 1#32
  let v69 : BitVec 1 := Scalar.cmpi .sge v68 c1_i32_54
  let v70 : BitVec 32 := Scalar.extui v69
  let c0_i32_55 : BitVec 32 := 0#32
  let v71 : BitVec 1 := Scalar.cmpi .ne v70 c0_i32_55
  v71

def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c0_i32_218 : BitVec 32 := 0#32
  let v259 : BitVec 32 := Scalar.addi v258 c0_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c128_i32_221 : BitVec 32 := 128#32
  let v263 : BitVec 32 := Scalar.addi v262 c128_i32_221
  let c0_i32_222 : BitVec 32 := 0#32
  ![v263.toNat, 0]
def k0_cond9 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_68 : BitVec 32 := 4#32
  let v84 : BitVec 32 := Scalar.muli v1 c4_i32_68
  let c1_i32_69 : BitVec 32 := 1#32
  let v85 : BitVec 32 := Scalar.addi v84 c1_i32_69
  let c126_i32_70 : BitVec 32 := 126#32
  let v86 : BitVec 1 := Scalar.cmpi .sle v85 c126_i32_70
  let v87 : BitVec 32 := Scalar.extui v86
  let c0_i32_71 : BitVec 32 := 0#32
  let v88 : BitVec 1 := Scalar.cmpi .ne v87 c0_i32_71
  v88

def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c1_i32_218 : BitVec 32 := 1#32
  let v259 : BitVec 32 := Scalar.addi v258 c1_i32_218
  let c512_i32 : BitVec 32 := 512#32
  let v260 : BitVec 32 := Scalar.muli v259 c512_i32
  let c0_i32_219 : BitVec 32 := 0#32
  let v261 : BitVec 32 := Scalar.addi v260 c0_i32_219
  let c0_i32_220 : BitVec 32 := 0#32
  ![v261.toNat, 0]
def k0_cond10 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_72 : BitVec 32 := 4#32
  let v89 : BitVec 32 := Scalar.muli v1 c4_i32_72
  let c1_i32_73 : BitVec 32 := 1#32
  let v90 : BitVec 32 := Scalar.addi v89 c1_i32_73
  let c1_i32_74 : BitVec 32 := 1#32
  let v91 : BitVec 1 := Scalar.cmpi .sge v90 c1_i32_74
  let v92 : BitVec 32 := Scalar.extui v91
  let c0_i32_75 : BitVec 32 := 0#32
  let v93 : BitVec 1 := Scalar.cmpi .ne v92 c0_i32_75
  v93

def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c1_i32_218 : BitVec 32 := 1#32
  let v259 : BitVec 32 := Scalar.addi v258 c1_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c0_i32_221 : BitVec 32 := 0#32
  let v263 : BitVec 32 := Scalar.addi v262 c0_i32_221
  let c0_i32_222 : BitVec 32 := 0#32
  ![v263.toNat, 0]
def k0_cond11 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_76 : BitVec 32 := 4#32
  let v94 : BitVec 32 := Scalar.muli v1 c4_i32_76
  let c1_i32_77 : BitVec 32 := 1#32
  let v95 : BitVec 32 := Scalar.addi v94 c1_i32_77
  let c126_i32_78 : BitVec 32 := 126#32
  let v96 : BitVec 1 := Scalar.cmpi .sle v95 c126_i32_78
  let v97 : BitVec 32 := Scalar.extui v96
  let c0_i32_79 : BitVec 32 := 0#32
  let v98 : BitVec 1 := Scalar.cmpi .ne v97 c0_i32_79
  v98

def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c1_i32_218 : BitVec 32 := 1#32
  let v259 : BitVec 32 := Scalar.addi v258 c1_i32_218
  let c512_i32 : BitVec 32 := 512#32
  let v260 : BitVec 32 := Scalar.muli v259 c512_i32
  let c0_i32_219 : BitVec 32 := 0#32
  let v261 : BitVec 32 := Scalar.addi v260 c0_i32_219
  let c0_i32_220 : BitVec 32 := 0#32
  ![v261.toNat, 0]
def k0_cond12 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_80 : BitVec 32 := 4#32
  let v99 : BitVec 32 := Scalar.muli v1 c4_i32_80
  let c1_i32_81 : BitVec 32 := 1#32
  let v100 : BitVec 32 := Scalar.addi v99 c1_i32_81
  let c1_i32_82 : BitVec 32 := 1#32
  let v101 : BitVec 1 := Scalar.cmpi .sge v100 c1_i32_82
  let v102 : BitVec 32 := Scalar.extui v101
  let c0_i32_83 : BitVec 32 := 0#32
  let v103 : BitVec 1 := Scalar.cmpi .ne v102 c0_i32_83
  v103

def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c1_i32_218 : BitVec 32 := 1#32
  let v259 : BitVec 32 := Scalar.addi v258 c1_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c0_i32_221 : BitVec 32 := 0#32
  let v263 : BitVec 32 := Scalar.addi v262 c0_i32_221
  let c0_i32_222 : BitVec 32 := 0#32
  ![v263.toNat, 0]
def k0_cond13 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_96 : BitVec 32 := 4#32
  let v116 : BitVec 32 := Scalar.muli v1 c4_i32_96
  let c1_i32_97 : BitVec 32 := 1#32
  let v117 : BitVec 32 := Scalar.addi v116 c1_i32_97
  let c126_i32_98 : BitVec 32 := 126#32
  let v118 : BitVec 1 := Scalar.cmpi .sle v117 c126_i32_98
  let v119 : BitVec 32 := Scalar.extui v118
  let c0_i32_99 : BitVec 32 := 0#32
  let v120 : BitVec 1 := Scalar.cmpi .ne v119 c0_i32_99
  v120

def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c1_i32_218 : BitVec 32 := 1#32
  let v259 : BitVec 32 := Scalar.addi v258 c1_i32_218
  let c512_i32 : BitVec 32 := 512#32
  let v260 : BitVec 32 := Scalar.muli v259 c512_i32
  let c128_i32_219 : BitVec 32 := 128#32
  let v261 : BitVec 32 := Scalar.addi v260 c128_i32_219
  let c0_i32_220 : BitVec 32 := 0#32
  ![v261.toNat, 0]
def k0_cond14 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_100 : BitVec 32 := 4#32
  let v121 : BitVec 32 := Scalar.muli v1 c4_i32_100
  let c1_i32_101 : BitVec 32 := 1#32
  let v122 : BitVec 32 := Scalar.addi v121 c1_i32_101
  let c1_i32_102 : BitVec 32 := 1#32
  let v123 : BitVec 1 := Scalar.cmpi .sge v122 c1_i32_102
  let v124 : BitVec 32 := Scalar.extui v123
  let c0_i32_103 : BitVec 32 := 0#32
  let v125 : BitVec 1 := Scalar.cmpi .ne v124 c0_i32_103
  v125

def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c1_i32_218 : BitVec 32 := 1#32
  let v259 : BitVec 32 := Scalar.addi v258 c1_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c128_i32_221 : BitVec 32 := 128#32
  let v263 : BitVec 32 := Scalar.addi v262 c128_i32_221
  let c0_i32_222 : BitVec 32 := 0#32
  ![v263.toNat, 0]
def k0_cond15 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_104 : BitVec 32 := 4#32
  let v126 : BitVec 32 := Scalar.muli v1 c4_i32_104
  let c1_i32_105 : BitVec 32 := 1#32
  let v127 : BitVec 32 := Scalar.addi v126 c1_i32_105
  let c126_i32_106 : BitVec 32 := 126#32
  let v128 : BitVec 1 := Scalar.cmpi .sle v127 c126_i32_106
  let v129 : BitVec 32 := Scalar.extui v128
  let c0_i32_107 : BitVec 32 := 0#32
  let v130 : BitVec 1 := Scalar.cmpi .ne v129 c0_i32_107
  v130

def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c1_i32_218 : BitVec 32 := 1#32
  let v259 : BitVec 32 := Scalar.addi v258 c1_i32_218
  let c512_i32 : BitVec 32 := 512#32
  let v260 : BitVec 32 := Scalar.muli v259 c512_i32
  let c128_i32_219 : BitVec 32 := 128#32
  let v261 : BitVec 32 := Scalar.addi v260 c128_i32_219
  let c0_i32_220 : BitVec 32 := 0#32
  ![v261.toNat, 0]
def k0_cond16 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_108 : BitVec 32 := 4#32
  let v131 : BitVec 32 := Scalar.muli v1 c4_i32_108
  let c1_i32_109 : BitVec 32 := 1#32
  let v132 : BitVec 32 := Scalar.addi v131 c1_i32_109
  let c1_i32_110 : BitVec 32 := 1#32
  let v133 : BitVec 1 := Scalar.cmpi .sge v132 c1_i32_110
  let v134 : BitVec 32 := Scalar.extui v133
  let c0_i32_111 : BitVec 32 := 0#32
  let v135 : BitVec 1 := Scalar.cmpi .ne v134 c0_i32_111
  v135

def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c1_i32_218 : BitVec 32 := 1#32
  let v259 : BitVec 32 := Scalar.addi v258 c1_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c128_i32_221 : BitVec 32 := 128#32
  let v263 : BitVec 32 := Scalar.addi v262 c128_i32_221
  let c0_i32_222 : BitVec 32 := 0#32
  ![v263.toNat, 0]
def k0_cond17 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_124 : BitVec 32 := 4#32
  let v148 : BitVec 32 := Scalar.muli v1 c4_i32_124
  let c2_i32_125 : BitVec 32 := 2#32
  let v149 : BitVec 32 := Scalar.addi v148 c2_i32_125
  let c126_i32_126 : BitVec 32 := 126#32
  let v150 : BitVec 1 := Scalar.cmpi .sle v149 c126_i32_126
  let v151 : BitVec 32 := Scalar.extui v150
  let c0_i32_127 : BitVec 32 := 0#32
  let v152 : BitVec 1 := Scalar.cmpi .ne v151 c0_i32_127
  v152

def k0_off18 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c2_i32_218 : BitVec 32 := 2#32
  let v259 : BitVec 32 := Scalar.addi v258 c2_i32_218
  let c512_i32 : BitVec 32 := 512#32
  let v260 : BitVec 32 := Scalar.muli v259 c512_i32
  let c0_i32_219 : BitVec 32 := 0#32
  let v261 : BitVec 32 := Scalar.addi v260 c0_i32_219
  let c0_i32_220 : BitVec 32 := 0#32
  ![v261.toNat, 0]
def k0_cond18 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_128 : BitVec 32 := 4#32
  let v153 : BitVec 32 := Scalar.muli v1 c4_i32_128
  let c2_i32_129 : BitVec 32 := 2#32
  let v154 : BitVec 32 := Scalar.addi v153 c2_i32_129
  let c1_i32_130 : BitVec 32 := 1#32
  let v155 : BitVec 1 := Scalar.cmpi .sge v154 c1_i32_130
  let v156 : BitVec 32 := Scalar.extui v155
  let c0_i32_131 : BitVec 32 := 0#32
  let v157 : BitVec 1 := Scalar.cmpi .ne v156 c0_i32_131
  v157

def k0_off19 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c2_i32_218 : BitVec 32 := 2#32
  let v259 : BitVec 32 := Scalar.addi v258 c2_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c0_i32_221 : BitVec 32 := 0#32
  let v263 : BitVec 32 := Scalar.addi v262 c0_i32_221
  let c0_i32_222 : BitVec 32 := 0#32
  ![v263.toNat, 0]
def k0_cond19 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_132 : BitVec 32 := 4#32
  let v158 : BitVec 32 := Scalar.muli v1 c4_i32_132
  let c2_i32_133 : BitVec 32 := 2#32
  let v159 : BitVec 32 := Scalar.addi v158 c2_i32_133
  let c126_i32_134 : BitVec 32 := 126#32
  let v160 : BitVec 1 := Scalar.cmpi .sle v159 c126_i32_134
  let v161 : BitVec 32 := Scalar.extui v160
  let c0_i32_135 : BitVec 32 := 0#32
  let v162 : BitVec 1 := Scalar.cmpi .ne v161 c0_i32_135
  v162

def k0_off20 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c2_i32_218 : BitVec 32 := 2#32
  let v259 : BitVec 32 := Scalar.addi v258 c2_i32_218
  let c512_i32 : BitVec 32 := 512#32
  let v260 : BitVec 32 := Scalar.muli v259 c512_i32
  let c0_i32_219 : BitVec 32 := 0#32
  let v261 : BitVec 32 := Scalar.addi v260 c0_i32_219
  let c0_i32_220 : BitVec 32 := 0#32
  ![v261.toNat, 0]
def k0_cond20 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_136 : BitVec 32 := 4#32
  let v163 : BitVec 32 := Scalar.muli v1 c4_i32_136
  let c2_i32_137 : BitVec 32 := 2#32
  let v164 : BitVec 32 := Scalar.addi v163 c2_i32_137
  let c1_i32_138 : BitVec 32 := 1#32
  let v165 : BitVec 1 := Scalar.cmpi .sge v164 c1_i32_138
  let v166 : BitVec 32 := Scalar.extui v165
  let c0_i32_139 : BitVec 32 := 0#32
  let v167 : BitVec 1 := Scalar.cmpi .ne v166 c0_i32_139
  v167

def k0_off21 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c2_i32_218 : BitVec 32 := 2#32
  let v259 : BitVec 32 := Scalar.addi v258 c2_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c0_i32_221 : BitVec 32 := 0#32
  let v263 : BitVec 32 := Scalar.addi v262 c0_i32_221
  let c0_i32_222 : BitVec 32 := 0#32
  ![v263.toNat, 0]
def k0_cond21 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_151 : BitVec 32 := 4#32
  let v180 : BitVec 32 := Scalar.muli v1 c4_i32_151
  let c2_i32_152 : BitVec 32 := 2#32
  let v181 : BitVec 32 := Scalar.addi v180 c2_i32_152
  let c126_i32_153 : BitVec 32 := 126#32
  let v182 : BitVec 1 := Scalar.cmpi .sle v181 c126_i32_153
  let v183 : BitVec 32 := Scalar.extui v182
  let c0_i32_154 : BitVec 32 := 0#32
  let v184 : BitVec 1 := Scalar.cmpi .ne v183 c0_i32_154
  v184

def k0_off22 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c2_i32_218 : BitVec 32 := 2#32
  let v259 : BitVec 32 := Scalar.addi v258 c2_i32_218
  let c512_i32 : BitVec 32 := 512#32
  let v260 : BitVec 32 := Scalar.muli v259 c512_i32
  let c128_i32_219 : BitVec 32 := 128#32
  let v261 : BitVec 32 := Scalar.addi v260 c128_i32_219
  let c0_i32_220 : BitVec 32 := 0#32
  ![v261.toNat, 0]
def k0_cond22 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_155 : BitVec 32 := 4#32
  let v185 : BitVec 32 := Scalar.muli v1 c4_i32_155
  let c2_i32_156 : BitVec 32 := 2#32
  let v186 : BitVec 32 := Scalar.addi v185 c2_i32_156
  let c1_i32_157 : BitVec 32 := 1#32
  let v187 : BitVec 1 := Scalar.cmpi .sge v186 c1_i32_157
  let v188 : BitVec 32 := Scalar.extui v187
  let c0_i32_158 : BitVec 32 := 0#32
  let v189 : BitVec 1 := Scalar.cmpi .ne v188 c0_i32_158
  v189

def k0_off23 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c2_i32_218 : BitVec 32 := 2#32
  let v259 : BitVec 32 := Scalar.addi v258 c2_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c128_i32_221 : BitVec 32 := 128#32
  let v263 : BitVec 32 := Scalar.addi v262 c128_i32_221
  let c0_i32_222 : BitVec 32 := 0#32
  ![v263.toNat, 0]
def k0_cond23 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_159 : BitVec 32 := 4#32
  let v190 : BitVec 32 := Scalar.muli v1 c4_i32_159
  let c2_i32_160 : BitVec 32 := 2#32
  let v191 : BitVec 32 := Scalar.addi v190 c2_i32_160
  let c126_i32_161 : BitVec 32 := 126#32
  let v192 : BitVec 1 := Scalar.cmpi .sle v191 c126_i32_161
  let v193 : BitVec 32 := Scalar.extui v192
  let c0_i32_162 : BitVec 32 := 0#32
  let v194 : BitVec 1 := Scalar.cmpi .ne v193 c0_i32_162
  v194

def k0_off24 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c2_i32_218 : BitVec 32 := 2#32
  let v259 : BitVec 32 := Scalar.addi v258 c2_i32_218
  let c512_i32 : BitVec 32 := 512#32
  let v260 : BitVec 32 := Scalar.muli v259 c512_i32
  let c128_i32_219 : BitVec 32 := 128#32
  let v261 : BitVec 32 := Scalar.addi v260 c128_i32_219
  let c0_i32_220 : BitVec 32 := 0#32
  ![v261.toNat, 0]
def k0_cond24 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_163 : BitVec 32 := 4#32
  let v195 : BitVec 32 := Scalar.muli v1 c4_i32_163
  let c2_i32_164 : BitVec 32 := 2#32
  let v196 : BitVec 32 := Scalar.addi v195 c2_i32_164
  let c1_i32_165 : BitVec 32 := 1#32
  let v197 : BitVec 1 := Scalar.cmpi .sge v196 c1_i32_165
  let v198 : BitVec 32 := Scalar.extui v197
  let c0_i32_166 : BitVec 32 := 0#32
  let v199 : BitVec 1 := Scalar.cmpi .ne v198 c0_i32_166
  v199

def k0_off25 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c2_i32_218 : BitVec 32 := 2#32
  let v259 : BitVec 32 := Scalar.addi v258 c2_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c128_i32_221 : BitVec 32 := 128#32
  let v263 : BitVec 32 := Scalar.addi v262 c128_i32_221
  let c0_i32_222 : BitVec 32 := 0#32
  ![v263.toNat, 0]
def k0_cond25 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_179 : BitVec 32 := 4#32
  let v212 : BitVec 32 := Scalar.muli v1 c4_i32_179
  let c3_i32_180 : BitVec 32 := 3#32
  let v213 : BitVec 32 := Scalar.addi v212 c3_i32_180
  let c126_i32_181 : BitVec 32 := 126#32
  let v214 : BitVec 1 := Scalar.cmpi .sle v213 c126_i32_181
  let v215 : BitVec 32 := Scalar.extui v214
  let c0_i32_182 : BitVec 32 := 0#32
  let v216 : BitVec 1 := Scalar.cmpi .ne v215 c0_i32_182
  v216

def k0_off26 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c3_i32_218 : BitVec 32 := 3#32
  let v259 : BitVec 32 := Scalar.addi v258 c3_i32_218
  let c512_i32 : BitVec 32 := 512#32
  let v260 : BitVec 32 := Scalar.muli v259 c512_i32
  let c0_i32_219 : BitVec 32 := 0#32
  let v261 : BitVec 32 := Scalar.addi v260 c0_i32_219
  let c0_i32_220 : BitVec 32 := 0#32
  ![v261.toNat, 0]
def k0_cond26 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_183 : BitVec 32 := 4#32
  let v217 : BitVec 32 := Scalar.muli v1 c4_i32_183
  let c3_i32_184 : BitVec 32 := 3#32
  let v218 : BitVec 32 := Scalar.addi v217 c3_i32_184
  let c1_i32_185 : BitVec 32 := 1#32
  let v219 : BitVec 1 := Scalar.cmpi .sge v218 c1_i32_185
  let v220 : BitVec 32 := Scalar.extui v219
  let c0_i32_186 : BitVec 32 := 0#32
  let v221 : BitVec 1 := Scalar.cmpi .ne v220 c0_i32_186
  v221

def k0_off27 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c3_i32_218 : BitVec 32 := 3#32
  let v259 : BitVec 32 := Scalar.addi v258 c3_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c0_i32_221 : BitVec 32 := 0#32
  let v263 : BitVec 32 := Scalar.addi v262 c0_i32_221
  let c0_i32_222 : BitVec 32 := 0#32
  ![v263.toNat, 0]
def k0_cond27 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_193 : BitVec 32 := 4#32
  let v228 : BitVec 32 := Scalar.muli v1 c4_i32_193
  let c3_i32_194 : BitVec 32 := 3#32
  let v229 : BitVec 32 := Scalar.addi v228 c3_i32_194
  let c126_i32_195 : BitVec 32 := 126#32
  let v230 : BitVec 1 := Scalar.cmpi .sle v229 c126_i32_195
  let v231 : BitVec 32 := Scalar.extui v230
  let c0_i32_196 : BitVec 32 := 0#32
  let v232 : BitVec 1 := Scalar.cmpi .ne v231 c0_i32_196
  v232

def k0_off28 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c3_i32_218 : BitVec 32 := 3#32
  let v259 : BitVec 32 := Scalar.addi v258 c3_i32_218
  let c512_i32 : BitVec 32 := 512#32
  let v260 : BitVec 32 := Scalar.muli v259 c512_i32
  let c128_i32_219 : BitVec 32 := 128#32
  let v261 : BitVec 32 := Scalar.addi v260 c128_i32_219
  let c0_i32_220 : BitVec 32 := 0#32
  ![v261.toNat, 0]
def k0_cond28 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_197 : BitVec 32 := 4#32
  let v233 : BitVec 32 := Scalar.muli v1 c4_i32_197
  let c3_i32_198 : BitVec 32 := 3#32
  let v234 : BitVec 32 := Scalar.addi v233 c3_i32_198
  let c1_i32_199 : BitVec 32 := 1#32
  let v235 : BitVec 1 := Scalar.cmpi .sge v234 c1_i32_199
  let v236 : BitVec 32 := Scalar.extui v235
  let c0_i32_200 : BitVec 32 := 0#32
  let v237 : BitVec 1 := Scalar.cmpi .ne v236 c0_i32_200
  v237

def k0_off29 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c3_i32_218 : BitVec 32 := 3#32
  let v259 : BitVec 32 := Scalar.addi v258 c3_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c128_i32_221 : BitVec 32 := 128#32
  let v263 : BitVec 32 := Scalar.addi v262 c128_i32_221
  let c0_i32_222 : BitVec 32 := 0#32
  ![v263.toNat, 0]
def k0_cond29 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_201 : BitVec 32 := 4#32
  let v238 : BitVec 32 := Scalar.muli v1 c4_i32_201
  let c3_i32_202 : BitVec 32 := 3#32
  let v239 : BitVec 32 := Scalar.addi v238 c3_i32_202
  let c126_i32_203 : BitVec 32 := 126#32
  let v240 : BitVec 1 := Scalar.cmpi .sle v239 c126_i32_203
  let v241 : BitVec 32 := Scalar.extui v240
  let c0_i32_204 : BitVec 32 := 0#32
  let v242 : BitVec 1 := Scalar.cmpi .ne v241 c0_i32_204
  v242

def k0_off30 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c3_i32_218 : BitVec 32 := 3#32
  let v259 : BitVec 32 := Scalar.addi v258 c3_i32_218
  let c512_i32 : BitVec 32 := 512#32
  let v260 : BitVec 32 := Scalar.muli v259 c512_i32
  let c0_i32_219 : BitVec 32 := 0#32
  let v261 : BitVec 32 := Scalar.addi v260 c0_i32_219
  let c0_i32_220 : BitVec 32 := 0#32
  ![v261.toNat, 0]
def k0_cond30 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_205 : BitVec 32 := 4#32
  let v243 : BitVec 32 := Scalar.muli v1 c4_i32_205
  let c3_i32_206 : BitVec 32 := 3#32
  let v244 : BitVec 32 := Scalar.addi v243 c3_i32_206
  let c1_i32_207 : BitVec 32 := 1#32
  let v245 : BitVec 1 := Scalar.cmpi .sge v244 c1_i32_207
  let v246 : BitVec 32 := Scalar.extui v245
  let c0_i32_208 : BitVec 32 := 0#32
  let v247 : BitVec 1 := Scalar.cmpi .ne v246 c0_i32_208
  v247

def k0_off31 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c3_i32_218 : BitVec 32 := 3#32
  let v259 : BitVec 32 := Scalar.addi v258 c3_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c0_i32_221 : BitVec 32 := 0#32
  let v263 : BitVec 32 := Scalar.addi v262 c0_i32_221
  let c0_i32_222 : BitVec 32 := 0#32
  ![v263.toNat, 0]
def k0_cond31 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_209 : BitVec 32 := 4#32
  let v248 : BitVec 32 := Scalar.muli v1 c4_i32_209
  let c3_i32_210 : BitVec 32 := 3#32
  let v249 : BitVec 32 := Scalar.addi v248 c3_i32_210
  let c126_i32_211 : BitVec 32 := 126#32
  let v250 : BitVec 1 := Scalar.cmpi .sle v249 c126_i32_211
  let v251 : BitVec 32 := Scalar.extui v250
  let c0_i32_212 : BitVec 32 := 0#32
  let v252 : BitVec 1 := Scalar.cmpi .ne v251 c0_i32_212
  v252

def k0_off32 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c3_i32_218 : BitVec 32 := 3#32
  let v259 : BitVec 32 := Scalar.addi v258 c3_i32_218
  let c512_i32 : BitVec 32 := 512#32
  let v260 : BitVec 32 := Scalar.muli v259 c512_i32
  let c128_i32_219 : BitVec 32 := 128#32
  let v261 : BitVec 32 := Scalar.addi v260 c128_i32_219
  let c0_i32_220 : BitVec 32 := 0#32
  ![v261.toNat, 0]
def k0_cond32 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_213 : BitVec 32 := 4#32
  let v253 : BitVec 32 := Scalar.muli v1 c4_i32_213
  let c3_i32_214 : BitVec 32 := 3#32
  let v254 : BitVec 32 := Scalar.addi v253 c3_i32_214
  let c1_i32_215 : BitVec 32 := 1#32
  let v255 : BitVec 1 := Scalar.cmpi .sge v254 c1_i32_215
  let v256 : BitVec 32 := Scalar.extui v255
  let c0_i32_216 : BitVec 32 := 0#32
  let v257 : BitVec 1 := Scalar.cmpi .ne v256 c0_i32_216
  v257

def k0_off33 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_217 : BitVec 32 := 4#32
  let v258 : BitVec 32 := Scalar.muli v1 c4_i32_217
  let c3_i32_218 : BitVec 32 := 3#32
  let v259 : BitVec 32 := Scalar.addi v258 c3_i32_218
  let c1_i32_219 : BitVec 32 := 1#32
  let v260 : BitVec 32 := Scalar.subi v259 c1_i32_219
  let c512_i32 : BitVec 32 := 512#32
  let v261 : BitVec 32 := Scalar.muli v260 c512_i32
  let c256_i32_220 : BitVec 32 := 256#32
  let v262 : BitVec 32 := Scalar.addi v261 c256_i32_220
  let c128_i32_221 : BitVec 32 := 128#32
  let v263 : BitVec 32 := Scalar.addi v262 c128_i32_221
  let c0_i32_222 : BitVec 32 := 0#32
  ![v263.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x256 : Shape := ⟨2, ![32768, 256]⟩
abbrev S127 : Shape := ⟨1, ![127]⟩
abbrev S127x1 : Shape := ⟨2, ![127, 1]⟩
abbrev S_ : Shape := ⟨0, ![]⟩
abbrev S512 : Shape := ⟨1, ![512]⟩
abbrev S1x512 : Shape := ⟨2, ![1, 512]⟩
abbrev S127x512 : Shape := ⟨2, ![127, 512]⟩
abbrev S127x512x1 : Shape := ⟨3, ![127, 512, 1]⟩
abbrev S127x512x256 : Shape := ⟨3, ![127, 512, 256]⟩

abbrev nBuf : Space → Nat
  | .hbm => 20
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S127, .i32⟩
  | .hbm, ⟨2, _⟩ => ⟨S127x1, .i32⟩
  | .hbm, ⟨3, _⟩ => ⟨S_, .i32⟩
  | .hbm, ⟨4, _⟩ => ⟨S127x1, .i32⟩
  | .hbm, ⟨5, _⟩ => ⟨S127x1, .i32⟩
  | .hbm, ⟨6, _⟩ => ⟨S512, .i32⟩
  | .hbm, ⟨7, _⟩ => ⟨S1x512, .i32⟩
  | .hbm, ⟨8, _⟩ => ⟨S127x512, .i32⟩
  | .hbm, ⟨9, _⟩ => ⟨S127x512, .i32⟩
  | .hbm, ⟨10, _⟩ => ⟨S127x512, .i32⟩
  | .hbm, ⟨11, _⟩ => ⟨S_, .i32⟩
  | .hbm, ⟨12, _⟩ => ⟨S127x512, .i32⟩
  | .hbm, ⟨13, _⟩ => ⟨S127x512, .i1⟩
  | .hbm, ⟨14, _⟩ => ⟨S_, .i32⟩
  | .hbm, ⟨15, _⟩ => ⟨S127x512, .i32⟩
  | .hbm, ⟨16, _⟩ => ⟨S127x512, .i32⟩
  | .hbm, ⟨17, _⟩ => ⟨S127x512, .i32⟩
  | .hbm, ⟨18, _⟩ => ⟨S127x512x1, .i32⟩
  | .hbm, ⟨19, _⟩ => ⟨S127x512x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Proof.StepsKernelIdeal.lean ====
/-
  The steps of one vector subcore's task, each as a rule about the transfers it issues and waits for.

  A task copies chunks of 128 rows of `x` into one of two scratch buffers and from there into the rows of the result that
  read them. The rules below are stated for any scratch buffer, any DMA semaphores and any offsets; `iteration` puts six
  of them together into one pass of the task's loop.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Statements under a condition -/

/-- The statement `m` where `c` holds, and nothing where it does not. -/
def guarded {E : Type → Type} {c : Prop} [Decidable c] : (c → Prog E PUnit) → Prog E PUnit :=
  fun m => if h : c then m h else pure ⟨⟩

theorem guarded_pos {E : Type → Type} {c : Prop} [Decidable c] (h : c) (m : c → Prog E PUnit) : guarded m = m h := dif_pos h
theorem guarded_neg {E : Type → Type} {c : Prop} [Decidable c] (h : ¬ c) (m : c → Prog E PUnit) : guarded m = pure ⟨⟩ := dif_neg h

/-- A program that goes on alike after a conditional statement, whether or not it was made. -/
theorem guarded_bind {E : Type → Type} {β : Type} {c : Prop} [Decidable c] (m : c → Prog E PUnit) (k : Prog E β) :
    (if h : c then m h >>= fun _ => k else k) = guarded m >>= fun _ => k := by
  by_cases h : c
  · rw [guarded_pos h, dif_pos h]
  · rw [guarded_neg h, dif_neg h, pure_bind]

/-! ## The resources -/

abbrev UH : Type := URounds (GSem nD τ sig) ℕ
abbrev UU : Type := UH × Counters

local notation "𝕄" => MT nD τ sig (HIx 1) (Elt F) ℕ UU ℕ

/-- `x`, the kernel's operand, on device `d`. -/
abbrev xLoc (d : Dev nD) : Loc nD τ sig := (SparseCore.T d).loc main_arg0
/-- The call's result on device `d`: 65024 rows, 512 for each window. -/
abbrev oLoc (d : Dev nD) : Loc nD τ sig := (SparseCore.T d).loc main_v0

local notation "xV" => (Memref.whole Cert.KernelIdeal.main_arg0_scv : Memref Cert.KernelIdeal.sig Kind.scVector Space.hbm Cert.KernelIdeal.S32768x256 EltTy.f32)
local notation "oV" => (Memref.whole Cert.KernelIdeal.main_v0_scv : Memref Cert.KernelIdeal.sig Kind.scVector Space.hbm Cert.KernelIdeal.S65024x256 EltTy.f32)

/-! ## The values -/

/-- The index `(n, e)` of `x`; `n` counts from row 0 again past the last row, so that it is defined for every number. -/
def xIdx (n : ℕ) (e : Fin 256) : S32768x256.Idx
  | 0 => ⟨n % 32768, Nat.mod_lt _ (by decide)⟩
  | 1 => e

/-- The 128 rows of `x` from row `r` on. -/
def rows (fx : S32768x256.Idx → Elt F .f32) (r : ℕ) : S128x256.Idx → Elt F .f32 :=
  fun k => fx (xIdx (r + (k 0).val) (k 1))

/-- What the call leaves in its result: row `512 w + t` is row `256 w + t` of `x`. -/
def windows (fx : S32768x256.Idx → Elt F .f32) : S65024x256.Idx → Elt F .f32 :=
  fun j => fx (xIdx (256 * ((j 0).val / 512) + (j 0).val % 512) (j 1))

/-- The 128 rows of the result from row `n - back` on, none of those before row 0 and none past the last. -/
def piece (n back : ℕ) : Finset S65024x256.Idx :=
  Finset.univ.filter fun j => n ≤ (j 0).val + back ∧ (j 0).val + back < n + 128

/-- The rows of a unit-stride slice of `x` at row `r` are the 128 rows from `r` on. -/
theorem read_rows (fx : S32768x256.Idx → Elt F .f32) (r : ℕ) {off : Fin S32768x256.rank → ℕ} (hoff : off = ![r, 0])
    (inb : ∀ a, off a + S128x256.size a ≤ S32768x256.size a) (hs) :
    ((xV).slice (Rect.unit (s := S32768x256) off S128x256.size inb) hs).view.read (Elt F) fx = rows fx r := by
  subst hoff
  funext k
  refine (View.read_apply _ _).trans ((cast_eq _ _).trans (congrArg fx ?_))
  have h0 : r + 128 ≤ 32768 := inb 0
  have hk : (k 0).val < 128 := (k 0).isLt
  funext a
  match a with
  | 0 =>
    apply Fin.ext
    show r + 1 * (k 0).val = (r + (k 0).val) % 32768
    omega
  | 1 =>
    apply Fin.ext
    show 0 + 1 * (k 1).val = (k 1).val
    omega

/-- A slice of the result of 128 rows at row `n - back` has the elements `piece n back`. -/
theorem set_piece (n back : ℕ) {off : Fin S65024x256.rank → ℕ} (hoff : off = ![n - back, 0]) (hn : back ≤ n)
    (inb : ∀ a, off a + S128x256.size a ≤ S65024x256.size a) (hs) :
    ((oV).slice (Rect.unit (s := S65024x256) off S128x256.size inb) hs).view.set = piece n back := by
  subst hoff
  refine (View.set_slice_whole _ _).trans ?_
  ext j
  refine Rect.mem_set_unit.trans ?_
  simp only [piece, Finset.mem_filter, Finset.mem_univ, true_and]
  constructor
  · intro h
    have h0 : n - back ≤ (j 0).val ∧ (j 0).val < n - back + 128 := h 0
    omega
  · intro h a
    match a with
    | 0 =>
      show n - back ≤ (j 0).val ∧ (j 0).val < n - back + 128
      omega
    | 1 =>
      have h1 : (j 1).val < 256 := (j 1).isLt
      show 0 ≤ (j 1).val ∧ (j 1).val < 0 + 256
      omega

/-- Row `r + k` of `x` is what the result holds `k` rows after row `n - back`, for the two placings of a chunk: the first
    half of a window (`back = 0`) and the second half of the window before (`back = 256`). -/
theorem windows_emb (fx : S32768x256.Idx → Elt F .f32) (b h r n back : ℕ) (hr : r = 256 * b + 128 * h) (hn : n = 512 * b + 128 * h)
    (hh : h < 2) (hb : back = 0 ∨ back = 256 ∧ 1 ≤ b) {off : Fin S65024x256.rank → ℕ} (hoff : off = ![n - back, 0])
    (inb : ∀ a, off a + S128x256.size a ≤ S65024x256.size a) (hs) (k : S128x256.Idx) :
    windows fx (((oV).slice (Rect.unit (s := S65024x256) off S128x256.size inb) hs).view.emb k) = rows fx r k := by
  subst hoff
  have hk : (k 0).val < 128 := (k 0).isLt
  show fx (xIdx (256 * ((n - back + 1 * (k 0).val) / 512) + (n - back + 1 * (k 0).val) % 512) ⟨0 + 1 * (k 1).val, _⟩) = fx (xIdx (r + (k 0).val) (k 1))
  congr 1
  have e0 : 256 * ((n - back + 1 * (k 0).val) / 512) + (n - back + 1 * (k 0).val) % 512 = r + (k 0).val := by
    have hb0 : n = 512 * b + 128 * h := hn
    rcases hb with hb | ⟨hb, h1⟩
    · subst hb; omega
    · subst hb
      obtain ⟨b', rfl⟩ : ∃ b', b = b' + 1 := ⟨b - 1, by omega⟩
      omega
  rw [e0]
  congr 1
  apply Fin.ext
  show 0 + 1 * (k 1).val = (k 1).val
  omega

/-! ## The steps of a task -/

section Steps

variable [FloatOps F] (d : Dev nD) (L : grid0.Coords)

abbrev cV (L : grid0.Coords) : Fin τ.nSC := (L 0).castLE hcore0
abbrev jV (L : grid0.Coords) : Fin τ.nSub := (L 1).castLE hsub0

local notation "Buffer" => Memref Cert.KernelIdeal.sig Kind.scVector Space.vmem Cert.KernelIdeal.S128x256 EltTy.f32
local notation "ProgV" => Prog (TpuEff Cert.KernelIdeal.nD Cert.KernelIdeal.τ Cert.KernelIdeal.sig (Elt F) Cert.KernelIdeal.Λ₀ (Proc.scVector (cV L) (jV L)))

abbrev 𝒱₀ : Variants := Variants.none

/-- Scratch buffer `b` at contents `f`, held at share `q`. -/
abbrev held (b : Buffer) (q : PosShare TreeShare) (f : Buf (Elt F) (b.view.loc (V d (cV L) (jV L)))) : sProp 𝕄 :=
  b.view.loc (V d (cV L) (jV L)) ↦[b.view.set]{q} f

/-- DMA semaphore `s` of the task's subcore reads zero. -/
abbrev zero (s : DmaSem sig) : sProp 𝕄 := semVal ((V d (cV L) (jV L)), SemLoc.dma s) 0

/-- What the task may still owe: no wait beyond those it began with, but for its own transfers. -/
def debts (O : CellTallies nD τ sig (HIx 1)) (W : Waits sig (HIx 1)) : sProp 𝕄 :=
  iprop(Transfers.MayWaits (V d (cV L) (jV L)) (default : HIx 1) O ∗ ∃ W', ⌜∀ p ∈ W', p ∈ W ∨ p.2 = none⌝ ∗ owes (V d (cV L) (jV L)) O W')

/-- The 128 rows of `x` from `r` on are on their way into buffer `b`, on semaphore `s`; of the share `q` of `x` the task keeps
    what the transfer does not read. -/
def arriving (fx : Buf (Elt F) (xLoc d)) (b : Buffer) (s : DmaSem sig) (q : PosShare TreeShare) (r : ℕ) : sProp 𝕄 :=
  iprop(∃ (I : Finset S32768x256.Idx) (f : Buf (Elt F) (b.view.loc (V d (cV L) (jV L)))), ⌜b.view.read (Elt F) f = rows fx r⌝
    ∗ Transfers.Flight countersEmb (V d (cV L) (jV L)) (.dma s) (default : HIx 1) b.view.dmaCredit
        iprop(held d L b fullShare f ∗ (xLoc d ↦[I]{q} fx))
    ∗ (xLoc d ↦[Finset.univ \ I]{q} fx))

/-- What a transfer of a chunk into the result credits its semaphore. -/
abbrev outCredit : ℕ := (sig.dmaCredit (Kind.scVector) .hbm (oV).view.buf S128x256 .f32)

/-- Where condition `p` holds, buffer `b` at contents `f` is on its way into the elements `I` of the result, on semaphore `s`;
    where it does not, nothing was started and there are no such elements. -/
def leaving (G : Buf (Elt F) (oLoc d)) (b : Buffer) (s : DmaSem sig) (q : PosShare TreeShare) (f : Buf (Elt F) (b.view.loc (V d (cV L) (jV L))))
    (I : Finset S65024x256.Idx) (p : Prop) : sProp 𝕄 :=
  iprop((⌜p⌝ ∗ Transfers.Flight countersEmb (V d (cV L) (jV L)) (.dma s) (default : HIx 1) outCredit
          iprop((oLoc d ↦[I]{fullShare} G) ∗ held d L b q f))
    ∨ (⌜¬ p⌝ ∗ ((oLoc d ↦[I]{fullShare} G) ∗ held d L b q f) ∗ zero d L s))

/-- Starting the copy of 128 rows of `x` into a buffer. -/
theorem start_in (fx : Buf (Elt F) (xLoc d)) {b : Buffer} {s : DmaSem sig} (q : PosShare TreeShare) (r : ℕ)
    {off : Fin S32768x256.rank → ℕ} (hoff : off = ![r, 0]) {inb : ∀ a, off a + S128x256.size a ≤ S32768x256.size a} {hs h1 h2 h3}
    {α : Type} {Q : α → sProp 𝕄} {k : PUnit → ProgV α} :
    iprop((∃ f, held d L b fullShare f) ∗ (xLoc d ↦{q} fx) ∗ zero d L s)
      ⊢ iprop((arriving d L fx b s q r -∗ wp frame (wpE (defs₀ (F := F)) 𝒱₀ (V d (cV L) (jV L)) none) Set.univ (k ⟨⟩) Q)
        -∗ wp frame (wpE (defs₀ (F := F)) 𝒱₀ (V d (cV L) (jV L)) none) Set.univ (Prog.lift (.enqueueDma ((xV).slice (Rect.unit (s := S32768x256) off S128x256.size inb) hs) (.here b) (.dma s) h1 h2 h3) >>= k) Q) := by
  iintro ⟨⟨%f, Hb⟩, Hx, Hs⟩ Hk
  ihave Hx' := (pointsTo_split_subset (q := q) (f := fx) (S := Finset.univ)
    (Finset.subset_univ ((xV).slice (Rect.unit (s := S32768x256) off S128x256.size inb) hs).view.set)).1 $$ Hx
  icases Hx' with ⟨Hx, Hr⟩
  iapply (Transfers.wp_dmaLocal countersEmb 𝒱₀ (V d (cV L) (jV L)) none (default : HIx 1) b.view.dmaCredit rfl
    (View.dmaCredit_pos _ (by decide)) (Finset.Subset.refl _)) $$ [Hx Hb Hs]
  · isplitl [Hx]; · iexact Hx
    isplitl [Hb]; · iexact Hb
    iexact Hs
  iintro Hf
  iapply Hk
  unfold arriving
  iexists _; iexists _
  isplitr
  swap
  · isplitl [Hf]; · iexact Hf
    iexact Hr
  ipureintro
  rw [View.read_write_univ]
  exact read_rows fx r hoff inb hs

/-- Waiting for a copy of rows of `x` into a buffer: the buffer holds them. -/
theorem wait_in (fx : Buf (Elt F) (xLoc d)) {b : Buffer} {s : DmaSem sig} (q : PosShare TreeShare) (r : ℕ)
    {O : CellTallies nD τ sig (HIx 1)} {W : Waits sig (HIx 1)} {src : Memref sig .scVector .hbm S128x256 .f32} {h1 h2} {α : Type} {Q : α → sProp 𝕄} {k : PUnit → ProgV α} :
    iprop(arriving d L fx b s q r ∗ debts d L O W)
      ⊢ iprop((iprop((∃ f, ⌜b.view.read (Elt F) f = rows fx r⌝ ∗ held d L b fullShare f) ∗ (xLoc d ↦{q} fx) ∗ zero d L s ∗ debts d L O W)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (Prog.lift (.waitDma2 s src b h1 h2) >>= k) Q) := by
  unfold arriving debts
  iintro ⟨⟨%I, %f, %hf, Hf, Hr⟩, #Hmw, %W', %hW, HO⟩ Hk
  iapply (Transfers.wp_waitLocalO countersEmb 𝒱₀ (V d (cV L) (jV L)) none (default : HIx 1) (rfl : b.view.dmaCredit = _)) $$ [Hf HO]
  · isplitl [Hf]; · iexact Hf
    isplitl [HO]; · iexact HO
    iapply (Transfers.MayWaits.elim (SemLoc.dma s)) $$ Hmw
  iintro ⟨⟨Hb, Hx⟩, Hs, HO⟩
  iapply Hk
  isplitl [Hb]
  · iexists f; isplitr; · ipureintro; exact hf
    iexact Hb
  isplitl [Hx Hr]
  · iapply (pointsTo_split_subset (q := q) (f := fx) (S := Finset.univ) (Finset.subset_univ I)).2
    isplitl [Hx] <;> iassumption
  isplitl [Hs]; · iexact Hs
  isplitr; · iexact Hmw
  iexists _; isplitr
  swap; · iexact HO
  ipureintro; intro p hp
  rcases Finset.mem_insert.mp hp with hp | hp; · exact .inr (hp ▸ rfl)
  exact hW p hp

/-- Copy buffer `b` into 128 rows of the result at `off`, on semaphore `s`, where the word `v` is one. -/
abbrev startOut (b : Buffer) (s : DmaSem sig) (v : BitVec 1) (off : Fin S65024x256.rank → ℕ)
    (inb : v = 1#1 → ∀ a, off a + S128x256.size a ≤ S65024x256.size a) (h1 : b.view.WordExact) : ProgV PUnit :=
  guarded (c := v = 1#1) fun h =>
    Prog.lift (.enqueueDma b (.here ((oV).slice (Rect.unit (s := S65024x256) off S128x256.size (inb h)) (fun _ => rfl))) (.dma s) h1 (View.wordExact_bits rfl) ⟨Or.inl rfl, trivial⟩)

/-- Wait for that copy, where the word `v` is one. -/
abbrev waitOut (b : Buffer) (s : DmaSem sig) (v : BitVec 1) (off : Fin S65024x256.rank → ℕ)
    (inb : v = 1#1 → ∀ a, off a + S128x256.size a ≤ S65024x256.size a) (h1 : b.view.WordExact) : ProgV PUnit :=
  guarded (c := v = 1#1) fun h =>
    Prog.lift (.waitDma2 s b ((oV).slice (Rect.unit (s := S65024x256) off S128x256.size (inb h)) (fun _ => rfl)) h1 (View.wordExact_bits rfl))

/-- Starting the copy of a buffer into rows of the result, where a condition says so. -/
theorem start_out (fo G : Buf (Elt F) (oLoc d)) {b : Buffer} {s : DmaSem sig} {q : PosShare TreeShare} {f : Buf (Elt F) (b.view.loc (V d (cV L) (jV L)))}
    {I : Finset S65024x256.Idx} {p : Prop} {v : BitVec 1} (hv : v = 1#1 ↔ p) (hI : ¬ p → I = ∅)
    {off : Fin S65024x256.rank → ℕ} {inb : v = 1#1 → ∀ a, off a + S128x256.size a ≤ S65024x256.size a} {h1}
    (hset : ∀ h : v = 1#1, ((oV).slice (Rect.unit (s := S65024x256) off S128x256.size (inb h)) (fun _ => rfl)).view.set = I)
    (hval : ∀ h : v = 1#1, ∀ k, G (((oV).slice (Rect.unit (s := S65024x256) off S128x256.size (inb h)) (fun _ => rfl)).view.emb k) = b.view.read (Elt F) f k)
    {α : Type} {Q : α → sProp 𝕄} {k : PUnit → ProgV α} :
    iprop((oLoc d ↦[I]{fullShare} fo) ∗ held d L b q f ∗ zero d L s)
      ⊢ iprop((leaving d L G b s q f I p -∗ wp frame (wpE (defs₀ (F := F)) 𝒱₀ (V d (cV L) (jV L)) none) Set.univ (k ⟨⟩) Q)
        -∗ wp frame (wpE (defs₀ (F := F)) 𝒱₀ (V d (cV L) (jV L)) none) Set.univ (startOut L b s v off inb h1 >>= k) Q) := by
  iintro ⟨Ho, Hb, Hs⟩ Hk
  by_cases h : v = 1#1
  · unfold startOut; rw [guarded_pos h]
    have hp : p := hv.mp h
    have hset' := hset h
    subst hset'
    have hw : ∀ i ∈ ((oV).slice (Rect.unit (s := S65024x256) off S128x256.size (inb h)) (fun _ => rfl)).view.set,
        ((oV).slice (Rect.unit (s := S65024x256) off S128x256.size (inb h)) (fun _ => rfl)).view.write (Elt F) fo
          (ReadAs.same.apply (b.view.read (Elt F) f)) Finset.univ i = G i := by
      intro i hi
      obtain ⟨k, -, rfl⟩ := Finset.mem_map.mp hi
      rw [View.write_emb_of_mem _ _ (Finset.mem_univ _)]
      exact (cast_eq _ _).trans (hval h k).symm
    iapply (Transfers.wp_dmaLocal countersEmb 𝒱₀ (V d (cV L) (jV L)) none (default : HIx 1) outCredit rfl
      (sig.dmaCredit_pos _ _ _ _ _ (by decide)) (Finset.Subset.refl _)) $$ [Ho Hb Hs]
    · isplitl [Hb]; · iexact Hb
      isplitl [Ho]; · iexact Ho
      iexact Hs
    iintro Hf
    iapply Hk
    unfold leaving
    ileft
    isplitr; · ipureintro; exact hp
    have hG := pointsTo_congr (Ix := HIx 1) (Name := ℕ) (U := UU) (Lvl := ℕ) (ℓ := oLoc d) (q := fullShare) hw
    iapply (Transfers.Flight_mono countersEmb (V d (cV L) (jV L)) (Entails.of_eq (congrArg (fun P : sProp 𝕄 => iprop(P ∗ held d L b q f)) hG))) $$ Hf
  · unfold startOut; rw [guarded_neg h]
    have hp : ¬ p := fun hp => h (hv.mpr hp)
    have hI' := hI hp
    subst hI'
    simp only [pure_bind]
    iapply Hk
    unfold leaving
    iright
    isplitr; · ipureintro; exact hp
    isplitr [Hs]
    · isplitl [Ho]
      · iapply (Entails.of_eq (show (oLoc d ↦[(∅ : Finset S65024x256.Idx)]{fullShare} fo : sProp 𝕄) = (oLoc d ↦[(∅ : Finset S65024x256.Idx)]{fullShare} G) from
          pointsTo_congr fun i hi => absurd hi (Finset.notMem_empty i)))
        iexact Ho
      iexact Hb
    iexact Hs

/-- Waiting for a copy of a buffer into rows of the result, where the condition says that there is one. -/
theorem wait_out (G : Buf (Elt F) (oLoc d)) {b : Buffer} {s : DmaSem sig} {q : PosShare TreeShare} {f : Buf (Elt F) (b.view.loc (V d (cV L) (jV L)))}
    {I : Finset S65024x256.Idx} {p : Prop} {v : BitVec 1} (hv : v = 1#1 ↔ p)
    {off : Fin S65024x256.rank → ℕ} {inb : v = 1#1 → ∀ a, off a + S128x256.size a ≤ S65024x256.size a} {h1}
    {O : CellTallies nD τ sig (HIx 1)} {W : Waits sig (HIx 1)} {α : Type} {Q : α → sProp 𝕄} {k : PUnit → ProgV α} :
    iprop(leaving d L G b s q f I p ∗ debts d L O W)
      ⊢ iprop((iprop((oLoc d ↦[I]{fullShare} G) ∗ held d L b q f ∗ zero d L s ∗ debts d L O W) -∗ wp frame (wpE (defs₀ (F := F)) 𝒱₀ (V d (cV L) (jV L)) none) Set.univ (k ⟨⟩) Q)
        -∗ wp frame (wpE (defs₀ (F := F)) 𝒱₀ (V d (cV L) (jV L)) none) Set.univ (waitOut L b s v off inb h1 >>= k) Q) := by
  unfold leaving
  iintro ⟨H, HO⟩ Hk
  icases H with (⟨%hp, Hf⟩ | ⟨%hp, ⟨Ho, Hb⟩, Hs⟩)
  · unfold waitOut; rw [guarded_pos (hv.mpr hp)]
    unfold debts
    icases HO with ⟨#Hmw, %W', %hW, HO⟩
    iapply (Transfers.wp_waitLocalO countersEmb 𝒱₀ (V d (cV L) (jV L)) none (default : HIx 1) rfl) $$ [Hf HO]
    · isplitl [Hf]; · iexact Hf
      isplitl [HO]; · iexact HO
      iapply (Transfers.MayWaits.elim (SemLoc.dma s)) $$ Hmw
    iintro ⟨⟨Ho, Hb⟩, Hs, HO⟩
    iapply Hk
    isplitl [Ho]; · iexact Ho
    isplitl [Hb]; · iexact Hb
    isplitl [Hs]; · iexact Hs
    isplitr; · iexact Hmw
    iexists _; isplitr
    swap; · iexact HO
    ipureintro; intro p hp
    rcases Finset.mem_insert.mp hp with hp | hp; · exact .inr (hp ▸ rfl)
    exact hW p hp
  · unfold waitOut; rw [guarded_neg (fun h => hp (hv.mp h))]
    simp only [pure_bind]
    iapply Hk
    isplitl [Ho]; · iexact Ho
    isplitl [Hb]; · iexact Hb
    isplitl [Hs]; · iexact Hs
    iexact HO

/-! ## A chunk's two copies

Half `h` of block `b` of `x` — its rows from `256 b + 128 h` on — is read by two windows: it is in the first half of window
`b`, if there is one (`b ≤ 126`), and in the second half of window `b - 1`, if there is one (`1 ≤ b`). -/

/-- Where half `h` of block `b` goes in window `b`. -/
abbrev front (b h : ℕ) : Finset S65024x256.Idx := piece (512 * b + 128 * h) 0
/-- Where half `h` of block `b` goes in window `b - 1`. -/
abbrev back (b h : ℕ) : Finset S65024x256.Idx := piece (512 * b + 128 * h) 256

theorem front_empty {b h : ℕ} (hb : ¬ b ≤ 126) : front b h = ∅ := by
  refine Finset.filter_eq_empty_iff.mpr fun j _ => ?_
  have hj : (j 0).val < 65024 := (j 0).isLt
  omega

theorem back_empty {b h : ℕ} (hh : h < 2) (hb : ¬ 1 ≤ b) : back b h = ∅ := by
  refine Finset.filter_eq_empty_iff.mpr fun j _ => ?_
  omega

/-- Both copies of a chunk are on their way out of `buf`, as far as there are such windows: the two share the buffer. -/
def copying (G : Buf (Elt F) (oLoc d)) (buf : Buffer) (sA sB : DmaSem sig) (b h : ℕ) : sProp 𝕄 :=
  iprop(∃ f : Buf (Elt F) (buf.view.loc (V d (cV L) (jV L))), leaving d L G buf sA fullShare.left f (front b h) (b ≤ 126)
    ∗ leaving d L G buf sB fullShare.right f (back b h) (1 ≤ b))

/-- The two places of the result a chunk goes to, at contents `g`. -/
abbrev places (g : Buf (Elt F) (oLoc d)) (b h : ℕ) : sProp 𝕄 :=
  iprop((oLoc d ↦[front b h]{fullShare} g) ∗ (oLoc d ↦[back b h]{fullShare} g))

/-- Starting both copies of a chunk. -/
theorem start_outs (fx : Buf (Elt F) (xLoc d)) (fo : Buf (Elt F) (oLoc d)) {buf : Buffer} {sA sB : DmaSem sig} {b h : ℕ} (hh : h < 2)
    {vA vB : BitVec 1} (hvA : vA = 1#1 ↔ b ≤ 126) (hvB : vB = 1#1 ↔ 1 ≤ b)
    {offA offB : Fin S65024x256.rank → ℕ} (hA : offA = ![512 * b + 128 * h, 0]) (hB : vB = 1#1 → offB = ![512 * b + 128 * h - 256, 0])
    {inbA : vA = 1#1 → ∀ a, offA a + S128x256.size a ≤ S65024x256.size a}
    {inbB : vB = 1#1 → ∀ a, offB a + S128x256.size a ≤ S65024x256.size a} {h1 h2}
    {α : Type} {Q : α → sProp 𝕄} {k : PUnit → ProgV α} :
    iprop((∃ f, ⌜buf.view.read (Elt F) f = rows fx (256 * b + 128 * h)⌝ ∗ held d L buf fullShare f) ∗ places d fo b h ∗ zero d L sA ∗ zero d L sB)
      ⊢ iprop((copying d L (windows fx) buf sA sB b h -∗ wp frame (wpE (defs₀ (F := F)) 𝒱₀ (V d (cV L) (jV L)) none) Set.univ (k ⟨⟩) Q)
        -∗ wp frame (wpE (defs₀ (F := F)) 𝒱₀ (V d (cV L) (jV L)) none) Set.univ (startOut L buf sA vA offA inbA h1 >>= fun _ => startOut L buf sB vB offB inbB h2 >>= k) Q) := by
  iintro ⟨⟨%f, %hf, Hb⟩, ⟨Ho, Ho'⟩, HA, HB⟩ Hk
  ihave Hb' := (pointsTo_share (PosShare.mem_left_op_right fullShare)).1 $$ Hb
  icases Hb' with ⟨Hl, Hr⟩
  iapply (start_out d L fo (windows fx) hvA (front_empty (h := h)) (fun h' => set_piece _ 0 hA (Nat.zero_le _) (inbA h') _)
    (fun h' k => by
      rw [hf]
      exact windows_emb fx b h _ _ 0 rfl rfl hh (.inl rfl) hA (inbA h') _ k)) $$ [Ho Hl HA]
  · isplitl [Ho]; · iexact Ho
    isplitl [Hl]; · iexact Hl
    iexact HA
  iintro Hlv
  iapply (start_out d L fo (windows fx) hvB (back_empty hh)
    (fun h' => set_piece _ 256 (hB h') (by have := hvB.mp h'; omega) (inbB h') _)
    (fun h' k => by
      rw [hf]
      exact windows_emb fx b h _ _ 256 rfl rfl hh (.inr ⟨rfl, hvB.mp h'⟩) (hB h') (inbB h') _ k)) $$ [Ho' Hr HB]
  · isplitl [Ho']; · iexact Ho'
    isplitl [Hr]; · iexact Hr
    iexact HB
  iintro Hrv
  iapply Hk
  unfold copying
  iexists f
  isplitl [Hlv] <;> iassumption

/-- Waiting for both copies of a chunk: its two places hold what the windows read. -/
theorem wait_outs (G : Buf (Elt F) (oLoc d)) {buf : Buffer} {sA sB : DmaSem sig} {b h : ℕ}
    {vA vB : BitVec 1} (hvA : vA = 1#1 ↔ b ≤ 126) (hvB : vB = 1#1 ↔ 1 ≤ b)
    {offA offB : Fin S65024x256.rank → ℕ} {inbA : vA = 1#1 → ∀ a, offA a + S128x256.size a ≤ S65024x256.size a}
    {inbB : vB = 1#1 → ∀ a, offB a + S128x256.size a ≤ S65024x256.size a} {h1 h2}
    {O : CellTallies nD τ sig (HIx 1)} {W : Waits sig (HIx 1)} {α : Type} {Q : α → sProp 𝕄} {k : PUnit → ProgV α} :
    iprop(copying d L G buf sA sB b h ∗ debts d L O W)
      ⊢ iprop((iprop(places d G b h ∗ (∃ f, held d L buf fullShare f) ∗ (zero d L sA ∗ zero d L sB) ∗ debts d L O W) -∗ wp frame (wpE (defs₀ (F := F)) 𝒱₀ (V d (cV L) (jV L)) none) Set.univ (k ⟨⟩) Q)
        -∗ wp frame (wpE (defs₀ (F := F)) 𝒱₀ (V d (cV L) (jV L)) none) Set.univ (waitOut L buf sA vA offA inbA h1 >>= fun _ => waitOut L buf sB vB offB inbB h2 >>= k) Q) := by
  unfold copying
  iintro ⟨⟨%f, Hlv, Hrv⟩, HO⟩ Hk
  iapply (wait_out d L G hvA) $$ [Hlv HO]
  · isplitl [Hlv] <;> iassumption
  iintro ⟨Ho, Hl, HA, HO⟩
  iapply (wait_out d L G hvB) $$ [Hrv HO]
  · isplitl [Hrv] <;> iassumption
  iintro ⟨Ho', Hr, HB, HO⟩
  iapply Hk
  isplitl [Ho Ho']
  · isplitl [Ho] <;> iassumption
  isplitl [Hl Hr]
  · iexists f
    iapply (pointsTo_share (PosShare.mem_left_op_right fullShare)).2
    isplitl [Hl] <;> iassumption
  isplitl [HA HB]
  · isplitl [HA] <;> iassumption
  iexact HO

/-- Between two passes of the task's loop: the chunk at row `r` is arriving in `bx`; half `h'` of block `b'` is on its way out
of `by'`; nothing else is under way. -/
def stage (fx : Buf (Elt F) (xLoc d)) (bx by' : Buffer) (iX aX oX iY aY oY : DmaSem sig) (qX qY : PosShare TreeShare) (r b' h' : ℕ)
    (O : CellTallies nD τ sig (HIx 1)) (W : Waits sig (HIx 1)) : sProp 𝕄 :=
  iprop(copying d L (windows fx) by' aY oY b' h' ∗ arriving d L fx bx iX qX r ∗ ((xLoc d ↦{qY} fx) ∗ zero d L iY)
    ∗ (zero d L aX ∗ zero d L oX) ∗ debts d L O W)

theorem stage_intro {fx : Buf (Elt F) (xLoc d)} {bx by' : Buffer} {iX aX oX iY aY oY : DmaSem sig} {qX qY : PosShare TreeShare} {r b' h' : ℕ}
    {O : CellTallies nD τ sig (HIx 1)} {W : Waits sig (HIx 1)} :
    iprop(copying d L (windows fx) by' aY oY b' h' ∗ arriving d L fx bx iX qX r ∗ ((xLoc d ↦{qY} fx) ∗ zero d L iY)
      ∗ (zero d L aX ∗ zero d L oX) ∗ debts d L O W) ⊢ stage d L fx bx by' iX aX oX iY aY oY qX qY r b' h' O W := Entails.of_eq rfl

/-- One pass of the task's loop, over the two buffers `bx` (where the chunk at row `r` — half `h` of block `b` — is arriving)
and `by'` (whose chunk, half `h'` of block `b'`, is on its way out): that chunk's copies are done, the chunk at row `r'` is
arriving in their buffer, and the copies out of `bx` have been started. -/
theorem iteration (fx : Buf (Elt F) (xLoc d)) (fo : Buf (Elt F) (oLoc d)) {bx by' : Buffer} {iX aX oX iY aY oY : DmaSem sig}
    (qX qY : PosShare TreeShare) {b h b' h' : ℕ} (r' : ℕ) (hh : h < 2)
    {uA uB vA vB : BitVec 1} (huA : uA = 1#1 ↔ b' ≤ 126) (huB : uB = 1#1 ↔ 1 ≤ b') (hvA : vA = 1#1 ↔ b ≤ 126) (hvB : vB = 1#1 ↔ 1 ≤ b)
    {woffA woffB offA offB : Fin S65024x256.rank → ℕ} (hA : offA = ![512 * b + 128 * h, 0]) (hB : vB = 1#1 → offB = ![512 * b + 128 * h - 256, 0])
    {winbA : uA = 1#1 → ∀ a, woffA a + S128x256.size a ≤ S65024x256.size a}
    {winbB : uB = 1#1 → ∀ a, woffB a + S128x256.size a ≤ S65024x256.size a}
    {inbA : vA = 1#1 → ∀ a, offA a + S128x256.size a ≤ S65024x256.size a}
    {inbB : vB = 1#1 → ∀ a, offB a + S128x256.size a ≤ S65024x256.size a}
    {off : Fin S32768x256.rank → ℕ} (hoff : off = ![r', 0]) {inb : ∀ a, off a + S128x256.size a ≤ S32768x256.size a} {src : Memref sig .scVector .hbm S128x256 .f32}
    {hs h1 h2 h3 h4 h5 h6 h7 h8 h9}
    {O : CellTallies nD τ sig (HIx 1)} {W : Waits sig (HIx 1)} {α : Type} {Q : α → sProp 𝕄} {k : PUnit → ProgV α} :
    iprop(stage d L fx bx by' iX aX oX iY aY oY qX qY (256 * b + 128 * h) b' h' O W ∗ places d fo b h)
      ⊢ iprop((iprop(stage d L fx by' bx iY aY oY iX aX oX qY qX r' b h O W ∗ places d (windows fx) b' h') -∗ wp frame (wpE (defs₀ (F := F)) 𝒱₀ (V d (cV L) (jV L)) none) Set.univ (k ⟨⟩) Q)
        -∗ wp frame (wpE (defs₀ (F := F)) 𝒱₀ (V d (cV L) (jV L)) none) Set.univ (waitOut L by' aY uA woffA winbA h1 >>= fun _ => waitOut L by' oY uB woffB winbB h2 >>= fun _ =>
            Prog.lift (.enqueueDma ((xV).slice (Rect.unit (s := S32768x256) off S128x256.size inb) hs) (.here by') (.dma iY) h3 h4 h5) >>= fun _ =>
            Prog.lift (.waitDma2 iX src bx h6 h7) >>= fun _ =>
            startOut L bx aX vA offA inbA h8 >>= fun _ => startOut L bx oX vB offB inbB h9 >>= k) Q) := by
  unfold stage
  iintro ⟨⟨Hc, Ha, ⟨Hx, HiY⟩, ⟨HaX, HoX⟩, HO⟩, Hp⟩ Hk
  iapply (wait_outs d L (windows fx) huA huB) $$ [Hc HO]
  · isplitl [Hc] <;> iassumption
  iintro ⟨Hp', Hb, HzY, HO⟩
  iapply (start_in d L fx qY r' hoff) $$ [Hb Hx HiY]
  · isplitl [Hb]; · iexact Hb
    isplitl [Hx] <;> iassumption
  iintro Ha'
  iapply (wait_in d L fx qX _) $$ [Ha HO]
  · isplitl [Ha] <;> iassumption
  iintro ⟨Hb, Hx, HiX, HO⟩
  iapply (start_outs d L fx fo hh hvA hvB hA hB) $$ [Hb Hp HaX HoX]
  · isplitl [Hb]; · iexact Hb
    isplitl [Hp]; · iexact Hp
    isplitl [HaX] <;> iassumption
  iintro Hc
  iapply Hk
  isplitr [Hp']
  · isplitl [Hc]; · iexact Hc
    isplitl [Ha']; · iexact Ha'
    isplitl [Hx HiX]
    · isplitl [Hx] <;> iassumption
    isplitl [HzY] <;> iassumption
  iexact Hp'

end Steps

end Cert.Proof.OnKernelIdeal

end
-- ==== Proof.TileKernelIdeal.lean ====
/-
  One vector subcore's whole task.

  Task `w = 2 s + c` (subcore `s` of SparseCore `c`) holds blocks `4 w … 4 w + 3` of `x`, two chunks each. It takes its eight
  chunks through the two scratch buffers in turn, and leaves in its part of the result what the windows read.
-/
module

public import proofs.«01_k».proof.Proof.StepsKernelIdeal

@[expose] public section

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S32768x256 EltTy.f32)
local notation "oV" => (Memref.whole Cert.KernelIdeal.main_v0_scv : Memref Cert.KernelIdeal.sig Kind.scVector Space.hbm Cert.KernelIdeal.S65024x256 EltTy.f32)
local notation "aV" => (Memref.whole Cert.KernelIdeal.cc0_scratch0 : Memref Cert.KernelIdeal.sig Kind.scVector Space.vmem Cert.KernelIdeal.S128x256 EltTy.f32)
local notation "bV" => (Memref.whole Cert.KernelIdeal.cc0_scratch1 : Memref Cert.KernelIdeal.sig Kind.scVector Space.vmem Cert.KernelIdeal.S128x256 EltTy.f32)

/-! ## The words the kernel computes -/

/-- Block `b` of the task's four. -/
abbrev blk (i : grid0.Coords) (b : ℕ) : ℕ := 8 * (i 1).val + 4 * (i 0).val + b

/-- Its number, as the kernel computes it. -/
def blockWord (i : grid0.Coords) (b : Fin 4) : BitVec 32 :=
  Scalar.addi (Scalar.muli (Scalar.addi (Scalar.muli (BitVec.ofNat 32 (i 1).val) 2#32) (BitVec.ofNat 32 (i 0).val)) 4#32) (BitVec.ofNat 32 b.val)

/-- Whether block `b` begins a window, as the kernel computes it. -/
def frontWord (i : grid0.Coords) (b : Fin 4) : BitVec 1 :=
  Scalar.cmpi .ne (Scalar.extui (Scalar.cmpi .sle (blockWord i b) 126#32)) 0#32

/-- Whether block `b` ends a window, as the kernel computes it. -/
def backWord (i : grid0.Coords) (b : Fin 4) : BitVec 1 :=
  Scalar.cmpi .ne (Scalar.extui (Scalar.cmpi .sge (blockWord i b) 1#32)) 0#32

/-- Where half `h` of block `b` goes in the window it begins, as the kernel computes it. -/
def frontOff (i : grid0.Coords) (b : Fin 4) (h : Fin 2) : Fin 2 → ℕ :=
  ![(Scalar.addi (Scalar.muli (blockWord i b) 512#32) (BitVec.ofNat 32 (128 * h.val))).toNat, 0]

/-- Where half `h` of block `b` goes in the window it ends, as the kernel computes it. -/
def backOff (i : grid0.Coords) (b : Fin 4) (h : Fin 2) : Fin 2 → ℕ :=
  ![(Scalar.addi (Scalar.addi (Scalar.muli (Scalar.subi (blockWord i b) 1#32) 512#32) 256#32) (BitVec.ofNat 32 (128 * h.val))).toNat, 0]

/-- Every block but the last begins a window. -/
theorem frontWord_iff : ∀ (i : grid0.Coords) (b : Fin 4), frontWord i b = 1#1 ↔ blk i b.val ≤ 126 := by decide +kernel
/-- Every block but the first ends a window. -/
theorem backWord_iff : ∀ (i : grid0.Coords) (b : Fin 4), backWord i b = 1#1 ↔ 1 ≤ blk i b.val := by decide +kernel
/-- A chunk's row in the window its block begins. -/
theorem frontOff_eq : ∀ (i : grid0.Coords) (b : Fin 4) (h : Fin 2), frontOff i b h = ![512 * blk i b.val + 128 * h.val, 0] := by decide +kernel
/-- A chunk's row in the window its block ends, if it ends one. -/
theorem backOff_eq : ∀ (i : grid0.Coords) (b : Fin 4) (h : Fin 2), backWord i b = 1#1 →
    backOff i b h = ![512 * blk i b.val + 128 * h.val - 256, 0] := by decide +kernel
/-- A chunk's row in `x`. -/
theorem inOff_eq (i : grid0.Coords) (b : Fin 4) (h : Fin 2) :
    k0_off1 i (BitVec.ofNat 32 b.val) (BitVec.ofNat 32 (128 * h.val)) = ![256 * blk i b.val + 128 * h.val, 0] := by
  rw [k0_off1_eq]; congr 1; unfold blk; omega

/-! ## The task's part of the result -/

/-- What task `s` of SparseCore `c` writes of the result: its blocks' places. -/
def tileSet (c s : ℕ) : Finset S65024x256.Idx :=
  Finset.univ.filter fun j => ((j 0).val + 256) / 2048 = 2 * s + c

/-- The places of the task's chunk `n` of eight. -/
abbrev chunkSet (c s n : ℕ) : Finset S65024x256.Idx :=
  front (8 * s + 4 * c + n / 2) (n % 2) ∪ back (8 * s + 4 * c + n / 2) (n % 2)

theorem mem_chunkSet {c s n : ℕ} {j : S65024x256.Idx} :
    j ∈ chunkSet c s n ↔ ((j 0).val + 256) / 512 = 8 * s + 4 * c + n / 2 ∧ ((j 0).val + 256) / 128 % 2 = n % 2 := by
  simp only [chunkSet, front, back, piece, Finset.mem_union, Finset.mem_filter, Finset.mem_univ, true_and]
  omega

/-- A task's part is its eight chunks' places. -/
theorem tileSet_eq (c s : ℕ) : tileSet c s = Finset.univ.biUnion fun n : Fin 8 => chunkSet c s n.val := by
  ext j
  simp only [Finset.mem_biUnion, Finset.mem_univ, true_and, mem_chunkSet, tileSet, Finset.mem_filter]
  constructor
  · intro h
    refine ⟨⟨2 * (((j 0).val + 256) / 512 % 4) + ((j 0).val + 256) / 128 % 2, by omega⟩, ?_⟩
    show _ = 8 * s + 4 * c + (2 * (((j 0).val + 256) / 512 % 4) + ((j 0).val + 256) / 128 % 2) / 2
      ∧ _ = (2 * (((j 0).val + 256) / 512 % 4) + ((j 0).val + 256) / 128 % 2) % 2
    omega
  · rintro ⟨n, h1, h2⟩
    have := n.isLt
    omega

theorem front_disjoint_back (b b' h h' : ℕ) (hh : h < 2) (hh' : h' < 2) : Disjoint (front b h) (back b' h') := by
  refine Finset.disjoint_left.mpr fun j h1 h2 => ?_
  simp only [front, back, piece, Finset.mem_filter, Finset.mem_univ, true_and] at h1 h2
  omega

/-- Holding a task's part of the result is holding its chunks' places. -/
theorem tile_places (d : Dev nD) (c s : ℕ) (g : Buf (Elt F) (oLoc d)) :
    (oLoc d ↦[tileSet c s]{fullShare} g : sProp 𝕄)
      = bigSep Finset.univ fun n : Fin 8 => places d g (8 * s + 4 * c + n.val / 2) (n.val % 2) := by
  rw [tileSet_eq, pointsTo_biUnion]
  · refine bigSep_congr fun n _ => ?_
    have hd := front_disjoint_back (8 * s + 4 * c + n.val / 2) (8 * s + 4 * c + n.val / 2) (n.val % 2) (n.val % 2) (by omega) (by omega)
    exact BI.Entails.antisymm (pointsTo_union hd).1 (pointsTo_union hd).2
  · intro n _ n' _ hne
    refine Finset.disjoint_left.mpr fun j h1 h2 => hne (Fin.ext ?_)
    rw [mem_chunkSet] at h1 h2
    omega

/-! ## The task -/

section Tile

variable [FloatOps F] (d : Dev nD) (L : grid0.Coords)

omit [FloatOps F] in
/-- Four blocks' two halves, one by one. -/
theorem bigSep_chunks (P : ℕ → ℕ → sProp 𝕄) (a : ℕ) :
    (bigSep Finset.univ fun n : Fin 8 => P (a + n.val / 2) (n.val % 2))
      = iprop(P (a + 0) 0 ∗ P (a + 0) 1 ∗ P (a + 1) 0 ∗ P (a + 1) 1 ∗ P (a + 2) 0 ∗ P (a + 2) 1 ∗ P (a + 3) 0 ∗ P (a + 3) 1) :=
  bigSep_univ_eq_bigSepL ([0, 1, 2, 3, 4, 5, 6, 7] : List (Fin 8)) (by decide +kernel) (by decide +kernel) _

omit [FloatOps F] in
/-- Holding a task's part of the result is holding the places of its four blocks' two halves. -/
theorem task_places (g : Buf (Elt F) (oLoc d)) :
    (oLoc d ↦[tileSet (L 0).val (L 1).val]{fullShare} g : sProp 𝕄)
      = iprop(places d g (blk L 0) 0 ∗ places d g (blk L 0) 1 ∗ places d g (blk L 1) 0 ∗ places d g (blk L 1) 1
          ∗ places d g (blk L 2) 0 ∗ places d g (blk L 2) 1 ∗ places d g (blk L 3) 0 ∗ places d g (blk L 3) 1) :=
  (tile_places d _ _ g).trans (bigSep_chunks (places d g) _)

/-- The counter of DMA semaphore `s` on the task's subcore. -/
abbrev cell (s : DmaSem sig) : GSem nD τ sig := ((V d (cV L) (jV L)), SemLoc.dma s)

omit [FloatOps F] in
theorem mem_cells {s : DmaSem sig} (hs : (SemLoc.dma s : SemLoc sig).isScoped .scVector = true) : cell d L s ∈ ownCells (V d (cV L) (jV L)) :=
  mem_ownCells.mpr ⟨rfl, hs⟩

omit [FloatOps F] in
theorem cell_ne {s s' : DmaSem sig} (h : (SemLoc.dma s : SemLoc sig) ≠ SemLoc.dma s') : cell d L s ≠ cell d L s' :=
  fun e => h (congrArg Prod.snd e)

/-- The subcore's cells but the task's six. -/
def restCells : Finset (GSem nD τ sig) :=
  ((((((ownCells (V d (cV L) (jV L))).erase (cell d L cc0_scratch2.sem)).erase (cell d L cc0_scratch3.sem)).erase (cell d L cc0_scratch4.sem)).erase
    (cell d L cc0_scratch5.sem)).erase (cell d L cc0_scratch6.sem)).erase (cell d L cc0_scratch7.sem)

omit [FloatOps F] in
/-- The task's six semaphores are among its subcore's. -/
theorem ownSems0_V :
    (ownSems0 (V d (cV L) (jV L)) : sProp 𝕄)
      = iprop(zero d L cc0_scratch2.sem ∗ zero d L cc0_scratch3.sem ∗ zero d L cc0_scratch4.sem ∗ zero d L cc0_scratch5.sem
          ∗ zero d L cc0_scratch6.sem ∗ zero d L cc0_scratch7.sem ∗ bigSep (restCells d L) fun g => semVal g 0) := by
  unfold ownSems0 restCells
  rw [SparseCore.bigSep_erase' (mem_cells d L (s := cc0_scratch2.sem) (by decide)),
    SparseCore.bigSep_erase' (i := cell d L cc0_scratch3.sem) (by simp only [Finset.mem_erase]; exact ⟨cell_ne d L (by decide), mem_cells d L (by decide)⟩),
    SparseCore.bigSep_erase' (i := cell d L cc0_scratch4.sem) (by simp only [Finset.mem_erase]; exact ⟨cell_ne d L (by decide), cell_ne d L (by decide), mem_cells d L (by decide)⟩),
    SparseCore.bigSep_erase' (i := cell d L cc0_scratch5.sem) (by simp only [Finset.mem_erase]; exact ⟨cell_ne d L (by decide), cell_ne d L (by decide), cell_ne d L (by decide), mem_cells d L (by decide)⟩),
    SparseCore.bigSep_erase' (i := cell d L cc0_scratch6.sem) (by simp only [Finset.mem_erase]; exact ⟨cell_ne d L (by decide), cell_ne d L (by decide), cell_ne d L (by decide), cell_ne d L (by decide), mem_cells d L (by decide)⟩),
    SparseCore.bigSep_erase' (i := cell d L cc0_scratch7.sem) (by simp only [Finset.mem_erase]; exact ⟨cell_ne d L (by decide), cell_ne d L (by decide), cell_ne d L (by decide), cell_ne d L (by decide), cell_ne d L (by decide), mem_cells d L (by decide)⟩)]

/-- The subcore's buffers but the task's two. -/
def restRefs : Finset (DevRef τ sig) :=
  ((ownRefs (τ := τ) (.scVector (cV L) (jV L))).erase ((Proc.scVector (cV L) (jV L)).devRef cc0_scratch0)).erase
    ((Proc.scVector (cV L) (jV L)).devRef cc0_scratch1)

omit [FloatOps F] in
/-- The task's two buffers are among its subcore's. -/
theorem ownBufs_V :
    (ownBufs (V d (cV L) (jV L)) : sProp 𝕄)
      = iprop((∃ f, held d L aV fullShare f) ∗ (∃ f, held d L bV fullShare f)
          ∗ bigSep (restRefs L) fun b => iprop(∃ f, ((d, b) : Loc nD τ sig) ↦{fullShare} f)) := by
  have ha : (aV).view.set = Finset.univ := View.set_whole _
  have hb : (bV).view.set = Finset.univ := View.set_whole _
  unfold ownBufs held restRefs
  rw [ha, hb]
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

set_option maxHeartbeats 4000000 in
/-- The task's body from its resources: its share of `x` stays, and its part of the result comes to hold what the windows
    read; buffers and semaphores are as they were. -/
theorem task_wp (fx : Buf (Elt F) (xLoc d)) (fo : Buf (Elt F) (oLoc d)) (q : PosShare TreeShare)
    (O : CellTallies nD τ sig (HIx 1)) (W : Waits sig (HIx 1)) :
    iprop(((xLoc d ↦{q} fx) ∗ (oLoc d ↦[tileSet (L 0).val (L 1).val]{fullShare} fo)) ∗ ownBufs (V d (cV L) (jV L)) ∗ ownSems0 (V d (cV L) (jV L)) ∗ debts d L O W)
      ⊢ wp frame (wpE (defs₀ (F := F)) 𝒱₀ (V d (cV L) (jV L)) none) Set.univ (cc0_body (F := F) L xV (Memref.isWhole_whole _) oV (Memref.isWhole_whole _) aV (Memref.isWhole_whole _) bV (Memref.isWhole_whole _)
            cc0_scratch2 cc0_scratch3 cc0_scratch4 cc0_scratch5 cc0_scratch6 cc0_scratch7)
          fun _ => iprop(((xLoc d ↦{q} fx) ∗ (oLoc d ↦[tileSet (L 0).val (L 1).val]{fullShare} windows fx)) ∗ ownBufs (V d (cV L) (jV L)) ∗ ownSems0 (V d (cV L) (jV L)) ∗ debts d L O W) := by
  simp only [cc0_body_eq_skeleton, cc0_body_skel, k0_part9_eq_skeleton, k0_part9_skel, k0_part1_eq_skeleton, k0_part1_skel,
    k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel,
    k0_part8_eq_skeleton, k0_part8_skel, guarded_bind, bind_assoc, pure_bind]
  rw [task_places, task_places, ownBufs_V, ownSems0_V]
  iintro ⟨⟨Hx, P0, P1, P2, P3, P4, P5, P6, P7⟩, ⟨Ha, Hb, Hbufs⟩, ⟨I0, I1, A0, A1, B0, B1, Hsems⟩, HO⟩
  ihave Hx' := (pointsTo_share (PosShare.mem_left_op_right q)).1 $$ Hx
  icases Hx' with ⟨X0, X1⟩
  iapply (start_in d L fx q.left _ (inOff_eq L 0 0)) $$ [Ha X0 I0]
  · isplitl [Ha]; · iexact Ha
    isplitl [X0] <;> iassumption
  iintro HA
  iapply (start_in d L fx q.right _ (inOff_eq L 0 1)) $$ [Hb X1 I1]
  · isplitl [Hb]; · iexact Hb
    isplitl [X1] <;> iassumption
  iintro HB
  iapply (wait_in d L fx q.left _) $$ [HA HO]
  · isplitl [HA] <;> iassumption
  iintro ⟨Ha, X0, I0, HO⟩
  iapply (start_outs d L fx fo (h := 0) (by decide) (frontWord_iff L 0) (backWord_iff L 0) (frontOff_eq L 0 0) (backOff_eq L 0 0)) $$ [Ha P0 A0 B0]
  · isplitl [Ha]; · iexact Ha
    isplitl [P0]; · iexact P0
    isplitl [A0] <;> iassumption
  iintro HA
  ihave S := (stage_intro d L) $$ [HA HB X0 I0 A1 B1 HO]
  · isplitl [HA]; · iexact HA
    isplitl [HB]; · iexact HB
    isplitl [X0 I0]; · isplitl [X0] <;> iassumption
    isplitl [A1 B1]; · isplitl [A1] <;> iassumption
    iexact HO
  iapply (iteration d L fx fo _ _ _ (h := 1) (by decide) (frontWord_iff L 0) (backWord_iff L 0) (frontWord_iff L 0) (backWord_iff L 0)
    (frontOff_eq L 0 1) (backOff_eq L 0 1) (inOff_eq L 1 0)) $$ [S P1]
  · isplitl [S] <;> iassumption
  iintro ⟨S, P0⟩
  iapply (iteration d L fx fo _ _ _ (h := 0) (by decide) (frontWord_iff L 0) (backWord_iff L 0) (frontWord_iff L 1) (backWord_iff L 1)
    (frontOff_eq L 1 0) (backOff_eq L 1 0) (inOff_eq L 1 1)) $$ [S P2]
  · isplitl [S] <;> iassumption
  iintro ⟨S, P1⟩
  iapply (iteration d L fx fo _ _ _ (h := 1) (by decide) (frontWord_iff L 1) (backWord_iff L 1) (frontWord_iff L 1) (backWord_iff L 1)
    (frontOff_eq L 1 1) (backOff_eq L 1 1) (inOff_eq L 2 0)) $$ [S P3]
  · isplitl [S] <;> iassumption
  iintro ⟨S, P2⟩
  iapply (iteration d L fx fo _ _ _ (h := 0) (by decide) (frontWord_iff L 1) (backWord_iff L 1) (frontWord_iff L 2) (backWord_iff L 2)
    (frontOff_eq L 2 0) (backOff_eq L 2 0) (inOff_eq L 2 1)) $$ [S P4]
  · isplitl [S] <;> iassumption
  iintro ⟨S, P3⟩
  iapply (iteration d L fx fo _ _ _ (h := 1) (by decide) (frontWord_iff L 2) (backWord_iff L 2) (frontWord_iff L 2) (backWord_iff L 2)
    (frontOff_eq L 2 1) (backOff_eq L 2 1) (inOff_eq L 3 0)) $$ [S P5]
  · isplitl [S] <;> iassumption
  iintro ⟨S, P4⟩
  iapply (iteration d L fx fo _ _ _ (h := 0) (by decide) (frontWord_iff L 2) (backWord_iff L 2) (frontWord_iff L 3) (backWord_iff L 3)
    (frontOff_eq L 3 0) (backOff_eq L 3 0) (inOff_eq L 3 1)) $$ [S P6]
  · isplitl [S] <;> iassumption
  iintro ⟨S, P5⟩
  unfold stage
  icases S with ⟨HA, HB, ⟨X0, I0⟩, ⟨A1, B1⟩, HO⟩
  iapply (wait_in d L fx _ _) $$ [HB HO]
  · isplitl [HB] <;> iassumption
  iintro ⟨Hb, X1, I1, HO⟩
  iapply (start_outs d L fx fo (h := 1) (by decide) (frontWord_iff L 3) (backWord_iff L 3) (frontOff_eq L 3 1) (backOff_eq L 3 1)) $$ [Hb P7 A1 B1]
  · isplitl [Hb]; · iexact Hb
    isplitl [P7]; · iexact P7
    isplitl [A1] <;> iassumption
  iintro HB
  iapply (wait_outs d L (windows fx) (frontWord_iff L 3) (backWord_iff L 3)) $$ [HA HO]
  · isplitl [HA] <;> iassumption
  iintro ⟨P6, Ha, ⟨A0, B0⟩, HO⟩
  iapply (wait_outs d L (windows fx) (frontWord_iff L 3) (backWord_iff L 3)) $$ [HB HO]
  · isplitl [HB] <;> iassumption
  iintro ⟨P7, Hb, ⟨A1, B1⟩, HO⟩
  simp only [wp_pure]
  imodintro
  isplitl [X0 X1 P0 P1 P2 P3 P4 P5 P6 P7]
  · isplitl [X0 X1]
    · iapply (pointsTo_share (PosShare.mem_left_op_right q)).2
      isplitl [X0] <;> iassumption
    isplitl [P0]; · iexact P0
    isplitl [P1]; · iexact P1
    isplitl [P2]; · iexact P2
    isplitl [P3]; · iexact P3
    isplitl [P4]; · iexact P4
    isplitl [P5]; · iexact P5
    isplitl [P6] <;> iassumption
  isplitl [Ha Hb Hbufs]
  · isplitl [Ha]; · iexact Ha
    isplitl [Hb] <;> iassumption
  isplitr [HO]
  · isplitl [I0]; · iexact I0
    isplitl [I1]; · iexact I1
    isplitl [A0]; · iexact A0
    isplitl [A1]; · iexact A1
    isplitl [B0]; · iexact B0
    isplitl [B1] <;> iassumption
  iexact HO

end Tile

end Cert.Proof.OnKernelIdeal

end
-- ==== Proof.RunKernelIdeal.lean ====
/-
  The program's run: the call on both SparseCores' sixteen subcores, then the reshape of its result.

  SparseCore `c` takes half of `x` (a share of all of it) and the odd or even tasks' parts of the result; each of its tasks a
  sixteenth of that half, and its own part. At the end `x` is as it was and the result is `windows x`, reshaped.
-/
module

public import proofs.«01_k».proof.Proof.TileKernelIdeal

@[expose] public section

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S32768x256 EltTy.f32)
local notation "oV" => (Memref.whole Cert.KernelIdeal.main_v0_scv : Memref Cert.KernelIdeal.sig Kind.scVector Space.hbm Cert.KernelIdeal.S65024x256 EltTy.f32)
local notation "aV" => (Memref.whole Cert.KernelIdeal.cc0_scratch0 : Memref Cert.KernelIdeal.sig Kind.scVector Space.vmem Cert.KernelIdeal.S128x256 EltTy.f32)
local notation "bV" => (Memref.whole Cert.KernelIdeal.cc0_scratch1 : Memref Cert.KernelIdeal.sig Kind.scVector Space.vmem Cert.KernelIdeal.S128x256 EltTy.f32)

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## What the cores and the tasks take -/

variable (m : (ℓ : Loc nD τ sig) → Buf (Elt F) ℓ) (ρ : Dev nD → PrngReg)

/-- SparseCore `c`'s share of `x`. -/
abbrev coreShare (c : Fin 2) : PosShare TreeShare := pieceOf fullShare 2 (by decide) c
/-- Its task `s`'s share of `x`. -/
abbrev taskShare (c : Fin 2) (s : Fin 16) : PosShare TreeShare := pieceOf (coreShare c) 16 (by decide) s

/-- What SparseCore `c` writes of the result. -/
def coreSet (c : ℕ) : Finset S65024x256.Idx :=
  Finset.univ.filter fun j => ((j 0).val + 256) / 2048 % 2 = c

/-- SparseCore `c`'s part: its share of `x`, and its part of the result at contents `g`. -/
abbrev corePart (d : Dev nD) (c : Fin 2) (g : Buf (Elt F) (oLoc d)) : sProp 𝕄 :=
  iprop((xLoc d ↦{coreShare c} m (xLoc d)) ∗ (oLoc d ↦[coreSet c.val]{fullShare} g))
/-- Its task `s`'s part. -/
abbrev taskPart (d : Dev nD) (c : Fin 2) (s : Fin 16) (g : Buf (Elt F) (oLoc d)) : sProp 𝕄 :=
  iprop((xLoc d ↦{taskShare c s} m (xLoc d)) ∗ (oLoc d ↦[tileSet c.val s.val]{fullShare} g))

theorem coreSet_eq (c : Fin 2) : coreSet c.val = Finset.univ.biUnion fun s : Fin 16 => tileSet c.val s.val := by
  ext j
  simp only [Finset.mem_biUnion, Finset.mem_univ, true_and, tileSet, coreSet, Finset.mem_filter]
  have hj : (j 0).val < 65024 := (j 0).isLt
  constructor
  · intro h
    refine ⟨⟨((j 0).val + 256) / 4096, by omega⟩, ?_⟩
    show _ = 2 * (((j 0).val + 256) / 4096) + _
    omega
  · rintro ⟨s, h⟩
    have := c.isLt
    omega

theorem univ_eq : (Finset.univ : Finset S65024x256.Idx) = Finset.univ.biUnion fun c : Fin 2 => coreSet c.val := by
  ext j
  simp only [Finset.mem_biUnion, Finset.mem_univ, true_and, coreSet, Finset.mem_filter, true_iff]
  exact ⟨⟨((j 0).val + 256) / 2048 % 2, by omega⟩, rfl⟩

/-- A core's part is its sixteen tasks' parts. -/
theorem corePart_eq (d : Dev nD) (c : Fin 2) (g : Buf (Elt F) (oLoc d)) :
    (corePart m d c g : sProp 𝕄) = bigSep Finset.univ fun s : Fin 16 => taskPart m d c s g := by
  rw [bigSep_sep', ← pointsTo_piecesOf, ← pointsTo_biUnion, ← coreSet_eq]
  intro s _ s' _ hne
  refine Finset.disjoint_left.mpr fun j h1 h2 => hne (Fin.ext ?_)
  simp only [tileSet, Finset.mem_filter, Finset.mem_univ, true_and] at h1 h2
  omega

/-- `x` and the whole result are the two cores' parts. -/
theorem parts_eq (d : Dev nD) (g : Buf (Elt F) (oLoc d)) :
    (iprop((xLoc d ↦{fullShare} m (xLoc d)) ∗ (oLoc d ↦{fullShare} g)) : sProp 𝕄) = bigSep Finset.univ fun c : Fin 2 => corePart m d c g := by
  rw [bigSep_sep', ← pointsTo_piecesOf, ← pointsTo_biUnion, ← univ_eq]
  intro c _ c' _ hne
  refine Finset.disjoint_left.mpr fun j h1 h2 => hne (Fin.ext ?_)
  simp only [coreSet, Finset.mem_filter, Finset.mem_univ, true_and] at h1 h2
  omega

variable [FloatOps F]

/-- The call's two cores and their tasks take their parts with the result as it is, and bring them back with the result
    holding what the windows read. -/
def P : (K (F := F)).Pay (nD := nD) (Val := Elt F) (Name := ℕ) (U := UU) where
  st := fun q d c => match q with | 0 => corePart m d (Fin.cast nCore_zero c) (m (oLoc d))
  dn := fun q d c => match q with | 0 => corePart m d (Fin.cast nCore_zero c) (windows (m (xLoc d)))
  go := fun q d c s => match q with | 0 => taskPart m d (Fin.cast nCore_zero c) (Fin.cast nSub_zero s) (m (oLoc d))
  td := fun q d c s => match q with | 0 => taskPart m d (Fin.cast nCore_zero c) (Fin.cast nSub_zero s) (windows (m (xLoc d)))
  x := fun _ _ => iprop(emp)

instance P_storable : (P (F := F) m).IsStorable where
  st q d c := match q with
    | 0 => (inferInstance : BI.Storable (upEmb : UEmb _ 𝕄) (corePart m d (Fin.cast nCore_zero c) (m (oLoc d))))
  dn q d c := match q with
    | 0 => (inferInstance : BI.Storable (upEmb : UEmb _ 𝕄) (corePart m d (Fin.cast nCore_zero c) (windows (m (xLoc d)))))
  go q d c s := match q with
    | 0 => (inferInstance : BI.Storable (upEmb : UEmb _ 𝕄) (taskPart m d (Fin.cast nCore_zero c) (Fin.cast nSub_zero s) (m (oLoc d))))
  td q d c s := match q with
    | 0 => (inferInstance : BI.Storable (upEmb : UEmb _ 𝕄) (taskPart m d (Fin.cast nCore_zero c) (Fin.cast nSub_zero s) (windows (m (xLoc d)))))

theorem vecSplit : (K (F := F)).VecSplit' (P m) 0 := by
  intro d c
  have h : ∀ g : Buf (Elt F) (oLoc d), (bigSep Finset.univ fun s : Fin ((K (F := F)).nSub 0) => taskPart m d (Fin.cast nCore_zero c) (Fin.cast nSub_zero s) g)
      = (corePart m d (Fin.cast nCore_zero c) g : sProp 𝕄) := fun g => (corePart_eq m d (Fin.cast nCore_zero c) g).symm
  show corePart m d (Fin.cast nCore_zero c) (m (oLoc d)) ⊢ |={Set.univ}=> iprop(
      (bigSep Finset.univ fun s : Fin ((K (F := F)).nSub 0) => taskPart m d (Fin.cast nCore_zero c) (Fin.cast nSub_zero s) (m (oLoc d)))
      ∗ ((bigSep Finset.univ fun s : Fin ((K (F := F)).nSub 0) => taskPart m d (Fin.cast nCore_zero c) (Fin.cast nSub_zero s) (windows (m (xLoc d))))
          -∗ corePart m d (Fin.cast nCore_zero c) (windows (m (xLoc d)))))
  rw [h, h]
  iintro H; imodintro
  isplitl [H]; · iexact H
  iintro H; iexact H

/-! ## A task's obligation -/

section Tile

variable (d : Dev nD) (L : grid0.Coords)

theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

theorem tile_body (hF : (K (F := F)).Facts) (O : CellTallies nD τ sig (HIx 1)) (W : Waits sig (HIx 1)) (hO : ∀ g, O g none = 0) :
    iprop(levAts (K (F := F)).L (K (F := F)).lev ∗ emp ∗ taskPart m d (cL L) (jL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body (F := F) L xV (Memref.isWhole_whole _) oV (Memref.isWhole_whole _) aV (Memref.isWhole_whole _) bV (Memref.isWhole_whole _)
            cc0_scratch2 cc0_scratch3 cc0_scratch4 cc0_scratch5 cc0_scratch6 cc0_scratch7)
          fun _ => iprop(taskPart m d (cL L) (jL L) (windows (m (xLoc d)))
            ∗ scopedBufs (V d (cV L) (jV L)) ∗ scopedSems0 (V d (cV L) (jV L)) ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L)]
  refine BI.Entails.trans ?_ ((task_wp d L (m (xLoc d)) (m (oLoc d)) (taskShare (cL L) (jL L)) O W).trans (wp_mono frame _ _ fun _ => ?_))
  · change (_ : sProp 𝕄) ⊢ _
    iintro ⟨#Hlv, -, Hp, Hb, Hs, HO⟩
    isplitl [Hp]; · iexact Hp
    isplitl [Hb]; · iexact Hb
    isplitl [Hs]; · iexact Hs
    unfold debts
    isplitr
    · iapply (show levAts (K (F := F)).L (K (F := F)).lev ⊢ Transfers.MayWaits (V d (cV L) (jV L)) (default : HIx 1) O from
        (K (F := F)).mayWaits_none (thr := (V d (cV L) (jV L))) hO) $$ Hlv
    iexists W; isplitr; · ipureintro; exact fun p hp => .inl hp
    iexact HO
  · iintro ⟨Hp, Hb, Hs, HO⟩
    unfold debts
    icases HO with ⟨-, HO⟩
    isplitl [Hp]; · iexact Hp
    isplitl [Hb]; · iexact Hb
    isplitl [Hs]; · iexact Hs
    iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (F := F) (coordsV c s) xV (Memref.isWhole_whole _) oV (Memref.isWhole_whole _)
          aV (Memref.isWhole_whole _) bV (Memref.isWhole_whole _) cc0_scratch2 cc0_scratch3 cc0_scratch4 cc0_scratch5 cc0_scratch6 cc0_scratch7) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_emp']
  iempintro

/-! ## @main on the TensorCore -/

abbrev rLoc (d : Dev nD) : Loc nD τ sig := (SparseCore.T d).loc main_v1

abbrev x' : DevRef τ sig := Proc.devRef .tc (main_arg0 : Ref sig .tc)
abbrev o' : DevRef τ sig := Proc.devRef .tc (main_v0 : Ref sig .tc)
abbrev r' : DevRef τ sig := Proc.devRef .tc (main_v1 : Ref sig .tc)
abbrev opR : HloOp τ sig (Elt F) := StableHlo.reshape main_v0 main_v1 (rfl : (.f32 : EltTy) = .f32) shapeCasts_S65024x256_S127x512x256

/-- The TensorCore's arrays: `x`, the call's result, the program's. -/
abbrev S3 : Finset (DevRef τ sig) := {x', o', r'}

omit [FloatOps F] in
theorem held_S3 (d : Dev nD) (W : Valuation τ sig (Elt F)) :
    (StableHlo.held (T d) S3 W : sProp 𝕄) = iprop((xLoc d ↦{fullShare} W x') ∗ (oLoc d ↦{fullShare} W o') ∗ rLoc d ↦{fullShare} W r') := by
  unfold StableHlo.held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0) ∗ rLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The arrays before the reshape. -/
def V1 (d : Dev nD) : Valuation τ sig (Elt F) := Function.update (fun b => m (d, b)) o' (windows (m (xLoc d)))

theorem V1_x (d : Dev nD) : V1 m d x' = m (xLoc d) := Function.update_of_ne (show x' ≠ o' by decide) _ _
theorem V1_o (d : Dev nD) : V1 m d o' = windows (m (xLoc d)) := Function.update_self _ _ _
theorem V1_r (d : Dev nD) : V1 m d r' = m (rLoc d) := Function.update_of_ne (show r' ≠ o' by decide) _ _

/-- What the program leaves in its result. -/
def outVal (d : Dev nD) : Buf (Elt F) (rLoc d) := shapeCast S127x512x256 (windows (m (xLoc d))) shapeCasts_S65024x256_S127x512x256

theorem result_x (d : Dev nD) : (opR (F := F)).result (V1 m d) x' = m (xLoc d) :=
  (StableHlo.reshape_result_ne _ _ _ _ _ _ (V1 m d) (by decide)).trans (V1_x m d)

theorem result_r (d : Dev nD) : (opR (F := F)).result (V1 m d) r' = outVal m d := by
  refine (StableHlo.reshape_result (Val := Elt F) main_v0 main_v1 rfl shapeCasts_S65024x256_S127x512x256 _ _ (V1 m d)).trans ?_
  rw [V1_o]; rfl

theorem hR : (opR (F := F)).bufs ⊆ S3 := show ({o', r'} : Finset (DevRef τ sig)) ⊆ S3 by decide

theorem st0_eq (d : Dev nD) : (bigSep Finset.univ fun c : Fin ((K (F := F)).nCore 0) => (P m).st 0 d c)
    = iprop((xLoc d ↦{fullShare} m (xLoc d)) ∗ (oLoc d ↦{fullShare} m (oLoc d))) := (parts_eq m d _).symm
theorem dn0_eq (d : Dev nD) : (bigSep Finset.univ fun c : Fin ((K (F := F)).nCore 0) => (P m).dn 0 d c)
    = iprop((xLoc d ↦{fullShare} m (xLoc d)) ∗ (oLoc d ↦{fullShare} windows (m (xLoc d)))) := (parts_eq m d _).symm

/-- What @main leaves: `x` as it was, the result at its value. -/
abbrev FIN (d : Dev nD) : sProp 𝕄 := iprop((xLoc d ↦{fullShare} m (xLoc d)) ∗ rLoc d ↦{fullShare} outVal m d)

/-- @main on device `d`'s TensorCore: the call, from `x` and its result; then the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho, Hr⟩, Hts, -⟩, -⟩
  iapply ((K (F := F)).wp_run (D (F := F)) 𝒱 (EH := EH) (P := P m) κ d 0) $$ [Hst Hx Ho Hb Hr Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opR) (S := S3) hR (V := V1 m d)) $$ [Hb Hx Ho Hr]
  · isplitl [Hb]; · iexact Hb
    rw [held_S3, V1_x, V1_o, V1_r]
    isplitl [Hx]; · iexact Hx
    isplitl [Ho]; · iexact Ho
    iexact Hr
  iintro ⟨Hb, Hheld⟩
  ihave Hh := (Entails.of_eq (held_S3 (F := F) d _)) $$ Hheld
  rw [result_x, result_r]
  icases Hh with ⟨Hx, -, Hr⟩
  rw [wp_ret]; imodintro; imodintro
  isplitl [Hst]; · iexact Hst
  isplitr [Hb Hts]
  · isplitl [Hx] <;> iassumption
  isplitl [Hb] <;> iassumption

def fq (d : Dev nD) (s' : Phys nD τ sig (Elt F)) : Prop := s'.mem.mem (xLoc d) = m (xLoc d) ∧ s'.mem.mem (rLoc d) = outVal m d

set_option maxRecDepth 16384 in
theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := rLoc d) (I := Finset.univ) (q := fullShare) (f := outVal m d)) $$ [HSI Hr]
  · isplitl [HSI] <;> iassumption
  icases H with %h2
  ipureintro; exact ⟨funext fun i => h1 i (Finset.mem_univ i), funext fun i => h2 i (Finset.mem_univ i)⟩

/-! ## The program's run -/

/-- The final state: `x` as it was, the result at its value, every semaphore at zero. -/
def QC : PUnit × MemSt nD τ sig (Elt F) → Prop :=
  fun r => (∀ c : Dev nD, r.2.mem (xLoc c) = m (xLoc c) ∧ r.2.mem (rLoc c) = outVal m c) ∧ r.2.sem = fun _ => 0

/-- The program runs and ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.OnKernelIdeal

end
-- ==== Proof.Value.lean ====
/-
  The reference's result, index by index: entry `(w, t, e)` is `x[256 w + t, e]`, which is what the kernel's reshaped result holds.

  The reference computes the row numbers `256 w + t` as 32-bit words, adds 32768 to those that are negative (none is) and gathers
  the rows, each row number clamped into `[0, 32767]` (all are in it already).
-/
module

public import proofs.«01_k».proof.Proof.RunKernelIdeal
public import proofs.«01_k».proof.Proof.Gen.ReferenceIdeal.Run
public import Idealize.ShloMosaic.Lib.Pipeline.Value
public import Idealize.ShloMosaic.Lib.WordCmp
public import Idealize.ShloMosaic.Lib.ValueIdxCore

@[expose] public section

noncomputable section

namespace Cert.Proof.Value

open Cert.ReferenceIdeal Cert.ReferenceIdeal.Gen Idealize.ShloMosaic

variable {F : FTy → Type}

/-- The row numbers as the reference first computes them. -/
def rowNumbers : IVec S127x512 32 :=
  addi (broadcastInDim S127x512 ![0, 1] bcast_S127x1_S127x512_0_1 (muli (broadcastInDim S127x1 ![] bcast_S_S127x1 (constantI S_ 32 256#32)) (broadcastInDim S127x1 ![0] bcast_S127_S127x1_0 (iotaInDim S127 32 0))))
    (broadcastInDim S127x512 ![0, 1] bcast_S1x512_S127x512_0_1 (broadcastInDim S1x512 ![1] bcast_S512_S1x512_1 (iotaInDim S512 32 0)))

/-- The row numbers the gather is given: those that are negative wrapped round. -/
def startRows : IVec S127x512x1 32 :=
  broadcastInDim S127x512x1 ![0, 1] bcast_S127x512_S127x512x1_0_1
    (select (cmpi .slt rowNumbers (broadcastInDim S127x512 ![] bcast_S_S127x512 (constantI S_ 32 0#32)))
      (addi rowNumbers (broadcastInDim S127x512 ![] bcast_S_S127x512 (constantI S_ 32 32768#32))) rowNumbers)

/-- Row number `(w, t)` is the word `256 w + t`. -/
theorem rowNumbers_apply (j : S127x512.Idx) : rowNumbers j = BitVec.ofNat 32 (256 * (j 0).val + (j 1).val) := by
  have h : rowNumbers j = 256#32 * BitVec.ofNat 32 (j 0).val + BitVec.ofNat 32 (j 1).val := rfl
  rw [h, BitVec.ofNat_add, BitVec.ofNat_mul]

/-- No row number is negative, so the gather is given the same words. -/
theorem startRows_apply (k : S127x512x1.Idx) : startRows k = BitVec.ofNat 32 (256 * (k 0).val + (k 1).val) := by
  have h0 : (k 0).val < 127 := (k 0).isLt
  have h1 : (k 1).val < 512 := (k 1).isLt
  obtain ⟨j, e0, e1, h⟩ : ∃ j : S127x512.Idx, (j 0).val = (k 0).val ∧ (j 1).val = (k 1).val
      ∧ startRows k = Scalar.select (IntOp.cmpi .slt (rowNumbers j) 0#32) (IntOp.addi (rowNumbers j) 32768#32) (rowNumbers j) :=
    ⟨_, rfl, rfl, rfl⟩
  rw [h, rowNumbers_apply, e0, e1, show (0#32) = BitVec.ofNat 32 0 from rfl, WordCmp.cmpi_slt_ofNat (by norm_num; omega) (by norm_num),
    decide_eq_false (by omega)]
  rfl

/-- Where the gather reads the row number of entry `(w, t, e)`: at `(w, t, 0)`. -/
def rowAt (y : S127x512x256.Idx) : S127x512x1.Idx
  | 0 => y 0
  | 1 => y 1
  | 2 => ⟨0, Nat.one_pos⟩

/-- The gather of whole rows: entry `(w, t, e)` is entry `e` of the row numbered at `(w, t, 0)`, the number clamped. -/
theorem gather_apply {α : Type} (x : S32768x256.Idx → α) (idx : IVec S127x512x1 32) (y : S127x512x256.Idx) (k : S32768x256.Idx)
    (h0 : (k 0).val = min (idx (rowAt y)).toInt.toNat 32767) (h1 : (k 1).val = (y 2).val) :
    Host.gather gather_S32768x256_S127x512x1_S127x512x256_2_0_n_n_0_2_1256 x idx y = x k := by
  unfold Host.gather
  congr 1
  funext a
  refine Fin.ext ?_
  have hs : gather_S32768x256_S127x512x1_S127x512x256_2_0_n_n_0_2_1256.siIdx y ⟨0, Nat.one_pos⟩ = rowAt y := by
    funext b
    match b with
    | 0 => rfl
    | 1 => rfl
    | 2 => rfl
  have ha : a = 0 ∨ a = 1 := by
    match a with
    | ⟨0, _⟩ => exact Or.inl rfl
    | ⟨1, _⟩ => exact Or.inr rfl
  rcases ha with rfl | rfl
  · refine Eq.trans ?_ h0.symm
    rw [← hs]
    rfl
  · refine Eq.trans ?_ h1.symm
    exact (show _ = 0 + 0 + (y 2).val from rfl).trans (by omega)

/-- The reference's result is the kernel's: the windows of `x`, reshaped. -/
theorem gather_eq (x : S32768x256.Idx → Elt F .f32) :
    Host.gather gather_S32768x256_S127x512x1_S127x512x256_2_0_n_n_0_2_1256 x startRows
      = shapeCast S127x512x256 (OnKernelIdeal.windows x) Cert.KernelIdeal.Gen.shapeCasts_S65024x256_S127x512x256 := by
  funext y
  have h0 : (y 0).val < 127 := (y 0).isLt
  have h1 : (y 1).val < 512 := (y 1).isLt
  have h2 : (y 2).val < 256 := (y 2).isLt
  have hr : 512 * (y 0).val + (y 1).val < 65024 := by omega
  have ed : (512 * (y 0).val + (y 1).val) / 512 = (y 0).val := by omega
  have em : (512 * (y 0).val + (y 1).val) % 512 = (y 1).val := by omega
  rw [shapeCast_apply _ _ y (ValueIdx.ix2 ⟨512 * (y 0).val + (y 1).val, hr⟩ ⟨(y 2).val, h2⟩)
    (by rw [Shape.rowMajor_val_two, Shape.rowMajor_val_three]
        show (512 * (y 0).val + (y 1).val) * 256 + (y 2).val = ((y 0).val * 512 + (y 1).val) * 256 + (y 2).val
        omega)]
  refine gather_apply x startRows y _ ?_ rfl
  rw [startRows_apply]
  show (256 * ((512 * (y 0).val + (y 1).val) / 512) + (512 * (y 0).val + (y 1).val) % 512) % 32768
    = min (BitVec.ofNat 32 (256 * (y 0).val + (y 1).val)).toInt.toNat 32767
  rw [ed, em, BitVec.toInt_eq_toNat_of_lt (by rw [BitVec.toNat_ofNat]; omega), BitVec.toNat_ofNat]
  omega

end Cert.Proof.Value

end
-- ==== Proof.lean ====
/-
  The five claims. The run of the kernel, with its result and its counters, is `run_main` (Proof/RunKernel.lean for the
  program as printed, Proof/RunKernelIdeal.lean for the idealized one); that the reference's result is the same array is
  `Value.gather_eq` (Proof/Value.lean).
-/
module

public import proofs.«01_k».proof.Defs
public import proofs.«01_k».proof.Proof.RunKernel
public import proofs.«01_k».proof.Proof.Value
public import Idealize.ShloMosaic.Lib.Quiescent

@[expose] public section

noncomputable section

namespace Cert.Proof

open Idealize.ShloMosaic Idealize.SL.Sem

/-- `Cert.quiescent_Kernel`: the kernel runs to its end, `x` is unchanged and every counter is zero again. -/
theorem frame_kernel : Cert.quiescent_Kernel := fun m ρ _ =>
  (θ_run Cert.Kernel.defs _ _).mono (fun _ h => ⟨fun c => (h.1 c).1, h.2⟩) (OnKernel.run_main (F := Bits) m ρ)

/-- `Cert.quiescent_KernelIdeal`: the same of the idealized kernel. -/
theorem frame_kernelIdeal : Cert.quiescent_KernelIdeal := fun m ρ _ =>
  (θ_run Cert.KernelIdeal.defs _ _).mono (fun _ h => ⟨fun c => (h.1 c).1, h.2⟩) (OnKernelIdeal.run_main (F := Ideal) m ρ)

/-- `Cert.quiescent_ReferenceIdeal`: the reference runs to its end and `x` is unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.algebraic_KernelIdeal_ReferenceIdeal`: from equal arguments both end with the windows of `x`, entry `(w, t, e)` being
    `x[256 w + t, e]`. -/
theorem algebraic : Cert.algebraic_KernelIdeal_ReferenceIdeal := by
  intro m ρ m' ρ' _ hagree
  refine ⟨fun c => OnKernelIdeal.outVal m c,
    (θ_run Cert.KernelIdeal.defs _ _).mono (fun _ h c => ⟨(h.1 c).2, (h.1 c).1⟩) (OnKernelIdeal.run_main (F := Ideal) m ρ), ?_⟩
  refine (θ_run Cert.ReferenceIdeal.defs _ _).mono (fun _ h c => ⟨(h c).1.trans ?_, (h c).2⟩)
    (Cert.ReferenceIdeal.Value.run (F := Ideal) m' ρ')
  exact (Value.gather_eq (F := Ideal) _).trans
    (congrArg (fun x => shapeCast Cert.KernelIdeal.S127x512x256 (OnKernelIdeal.windows (F := Ideal) x)
      Cert.KernelIdeal.Gen.shapeCasts_S65024x256_S127x512x256) (hagree c))

/-- `Cert.Claim`: the five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
